-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ShareIdeal (m : (ℓ : Loc Cert.ShareIdeal.nD Cert.ShareIdeal.τ Cert.ShareIdeal.sig) → Buf (Elt Ideal) ℓ) : Prop :=
  True

def Pre_ShareIdeal_routed_ShareIdeal [hPre_routed_ShareIdeal : Cert.Pre_routed_ShareIdeal.Facts] (m : (ℓ : Loc Cert.ShareIdeal.nD Cert.ShareIdeal.τ Cert.ShareIdeal.sig) → Buf (Elt Ideal) ℓ) : Prop :=
  ∀ c : Dev Cert.ShareIdeal.nD,
    (Cert.Pre_routed_ShareIdeal.fn (F := Ideal) (m ((c.tc : Thread Cert.ShareIdeal.nD Cert.ShareIdeal.τ).loc Cert.ShareIdeal.main_arg0)) (m ((c.tc : Thread Cert.ShareIdeal.nD Cert.ShareIdeal.τ).loc Cert.ShareIdeal.main_arg1)) (m ((c.tc : Thread Cert.ShareIdeal.nD Cert.ShareIdeal.τ).loc Cert.ShareIdeal.main_arg2)) (m ((c.tc : Thread Cert.ShareIdeal.nD Cert.ShareIdeal.τ).loc Cert.ShareIdeal.main_arg3))) = (fun _ => 1#1)

def Pre_TotalIdeal (m : (ℓ : Loc Cert.TotalIdeal.nD Cert.TotalIdeal.τ Cert.TotalIdeal.sig) → Buf (Elt Ideal) ℓ) : Prop :=
  True

def Pre_TotalIdeal_counted [hPre_counted : Cert.Pre_counted.Facts] (m : (ℓ : Loc Cert.TotalIdeal.nD Cert.TotalIdeal.τ Cert.TotalIdeal.sig) → Buf (Elt Ideal) ℓ) : Prop :=
  ∀ c : Dev Cert.TotalIdeal.nD,
    (Cert.Pre_counted.fn (F := Ideal) (m ((c.tc : Thread Cert.TotalIdeal.nD Cert.TotalIdeal.τ).loc Cert.TotalIdeal.main_arg0)) (m ((c.tc : Thread Cert.TotalIdeal.nD Cert.TotalIdeal.τ).loc Cert.TotalIdeal.main_arg1)) (m ((c.tc : Thread Cert.TotalIdeal.nD Cert.TotalIdeal.τ).loc Cert.TotalIdeal.main_arg2)) (m ((c.tc : Thread Cert.TotalIdeal.nD Cert.TotalIdeal.τ).loc Cert.TotalIdeal.main_arg3))) = (fun _ => 1#1)

def Pre_FullIdeal (m : (ℓ : Loc Cert.FullIdeal.nD Cert.FullIdeal.τ Cert.FullIdeal.sig) → Buf (Elt Ideal) ℓ) : Prop :=
  True

def Pre_FullIdeal_counted [hPre_counted : Cert.Pre_counted.Facts] (m : (ℓ : Loc Cert.FullIdeal.nD Cert.FullIdeal.τ Cert.FullIdeal.sig) → Buf (Elt Ideal) ℓ) : Prop :=
  ∀ c : Dev Cert.FullIdeal.nD,
    (Cert.Pre_counted.fn (F := Ideal) (m ((c.tc : Thread Cert.FullIdeal.nD Cert.FullIdeal.τ).loc Cert.FullIdeal.main_arg0)) (m ((c.tc : Thread Cert.FullIdeal.nD Cert.FullIdeal.τ).loc Cert.FullIdeal.main_arg1)) (m ((c.tc : Thread Cert.FullIdeal.nD Cert.FullIdeal.τ).loc Cert.FullIdeal.main_arg2)) (m ((c.tc : Thread Cert.FullIdeal.nD Cert.FullIdeal.τ).loc Cert.FullIdeal.main_arg3))) = (fun _ => 1#1)

def Pre_KernelCx (m : (ℓ : Loc Cert.KernelCx.nD Cert.KernelCx.τ Cert.KernelCx.sig) → Buf (Elt Bits) ℓ) : Prop :=
  True

def Pre_KernelCxIdeal (m : (ℓ : Loc Cert.KernelCxIdeal.nD Cert.KernelCxIdeal.τ Cert.KernelCxIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
      ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
      ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
      ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3))
      ∧ r.2.sem = fun _ => 0)

def quiescent_ShareIdeal_pre_routed_ShareIdeal [hShareIdeal : Cert.ShareIdeal.Facts] [hPre_routed_ShareIdeal : Cert.Pre_routed_ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal_routed_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
      ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
      ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
      ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3))
      ∧ r.2.sem = fun _ => 0)

def quiescent_TotalIdeal [hTotalIdeal : Cert.TotalIdeal.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0)
      ∧ r.2.mem ((c.tc : Thread Cert.TotalIdeal.nD Cert.TotalIdeal.τ).loc Cert.TotalIdeal.main_arg1) = m ((c.tc : Thread Cert.TotalIdeal.nD Cert.TotalIdeal.τ).loc Cert.TotalIdeal.main_arg1)
      ∧ r.2.mem ((c.tc : Thread Cert.TotalIdeal.nD Cert.TotalIdeal.τ).loc Cert.TotalIdeal.main_arg2) = m ((c.tc : Thread Cert.TotalIdeal.nD Cert.TotalIdeal.τ).loc Cert.TotalIdeal.main_arg2)
      ∧ r.2.mem ((c.tc : Thread Cert.TotalIdeal.nD Cert.TotalIdeal.τ).loc Cert.TotalIdeal.main_arg3) = m ((c.tc : Thread Cert.TotalIdeal.nD Cert.TotalIdeal.τ).loc Cert.TotalIdeal.main_arg3))
      ∧ r.2.sem = fun _ => 0)

def quiescent_TotalIdeal_pre_counted [hTotalIdeal : Cert.TotalIdeal.Facts] [hPre_counted : Cert.Pre_counted.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal_counted m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0)
      ∧ r.2.mem ((c.tc : Thread Cert.TotalIdeal.nD Cert.TotalIdeal.τ).loc Cert.TotalIdeal.main_arg1) = m ((c.tc : Thread Cert.TotalIdeal.nD Cert.TotalIdeal.τ).loc Cert.TotalIdeal.main_arg1)
      ∧ r.2.mem ((c.tc : Thread Cert.TotalIdeal.nD Cert.TotalIdeal.τ).loc Cert.TotalIdeal.main_arg2) = m ((c.tc : Thread Cert.TotalIdeal.nD Cert.TotalIdeal.τ).loc Cert.TotalIdeal.main_arg2)
      ∧ r.2.mem ((c.tc : Thread Cert.TotalIdeal.nD Cert.TotalIdeal.τ).loc Cert.TotalIdeal.main_arg3) = m ((c.tc : Thread Cert.TotalIdeal.nD Cert.TotalIdeal.τ).loc Cert.TotalIdeal.main_arg3))
      ∧ r.2.sem = fun _ => 0)

def quiescent_FullIdeal [hFullIdeal : Cert.FullIdeal.Facts] : Prop :=
  ∀ (m : (ℓ : Loc Cert.FullIdeal.nD Cert.FullIdeal.τ Cert.FullIdeal.sig) → Buf (Elt Ideal) ℓ) (g : Dev Cert.FullIdeal.nD → PrngReg), Pre_FullIdeal m →
    θ_run (Cert.FullIdeal.defs (F := Ideal)) (onTc (τ := Cert.FullIdeal.τ) (Cert.FullIdeal.main (F := Ideal))) ⟨m, fun _ => 0, g⟩ (fun r => (∀ c : Dev Cert.FullIdeal.nD,
      r.2.mem ((c.tc : Thread Cert.FullIdeal.nD Cert.FullIdeal.τ).loc Cert.FullIdeal.main_arg0) = m ((c.tc : Thread Cert.FullIdeal.nD Cert.FullIdeal.τ).loc Cert.FullIdeal.main_arg0)
      ∧ r.2.mem ((c.tc : Thread Cert.FullIdeal.nD Cert.FullIdeal.τ).loc Cert.FullIdeal.main_arg1) = m ((c.tc : Thread Cert.FullIdeal.nD Cert.FullIdeal.τ).loc Cert.FullIdeal.main_arg1)
      ∧ r.2.mem ((c.tc : Thread Cert.FullIdeal.nD Cert.FullIdeal.τ).loc Cert.FullIdeal.main_arg2) = m ((c.tc : Thread Cert.FullIdeal.nD Cert.FullIdeal.τ).loc Cert.FullIdeal.main_arg2)
      ∧ r.2.mem ((c.tc : Thread Cert.FullIdeal.nD Cert.FullIdeal.τ).loc Cert.FullIdeal.main_arg3) = m ((c.tc : Thread Cert.FullIdeal.nD Cert.FullIdeal.τ).loc Cert.FullIdeal.main_arg3))
      ∧ r.2.sem = fun _ => 0)

def quiescent_FullIdeal_pre_counted [hFullIdeal : Cert.FullIdeal.Facts] [hPre_counted : Cert.Pre_counted.Facts] : Prop :=
  ∀ (m : (ℓ : Loc Cert.FullIdeal.nD Cert.FullIdeal.τ Cert.FullIdeal.sig) → Buf (Elt Ideal) ℓ) (g : Dev Cert.FullIdeal.nD → PrngReg), Pre_FullIdeal_counted m →
    θ_run (Cert.FullIdeal.defs (F := Ideal)) (onTc (τ := Cert.FullIdeal.τ) (Cert.FullIdeal.main (F := Ideal))) ⟨m, fun _ => 0, g⟩ (fun r => (∀ c : Dev Cert.FullIdeal.nD,
      r.2.mem ((c.tc : Thread Cert.FullIdeal.nD Cert.FullIdeal.τ).loc Cert.FullIdeal.main_arg0) = m ((c.tc : Thread Cert.FullIdeal.nD Cert.FullIdeal.τ).loc Cert.FullIdeal.main_arg0)
      ∧ r.2.mem ((c.tc : Thread Cert.FullIdeal.nD Cert.FullIdeal.τ).loc Cert.FullIdeal.main_arg1) = m ((c.tc : Thread Cert.FullIdeal.nD Cert.FullIdeal.τ).loc Cert.FullIdeal.main_arg1)
      ∧ r.2.mem ((c.tc : Thread Cert.FullIdeal.nD Cert.FullIdeal.τ).loc Cert.FullIdeal.main_arg2) = m ((c.tc : Thread Cert.FullIdeal.nD Cert.FullIdeal.τ).loc Cert.FullIdeal.main_arg2)
      ∧ r.2.mem ((c.tc : Thread Cert.FullIdeal.nD Cert.FullIdeal.τ).loc Cert.FullIdeal.main_arg3) = m ((c.tc : Thread Cert.FullIdeal.nD Cert.FullIdeal.τ).loc Cert.FullIdeal.main_arg3))
      ∧ r.2.sem = fun _ => 0)

def quiescent_KernelCx [hKernelCx : Cert.KernelCx.Facts] : Prop :=
  ∀ (m : (ℓ : Loc Cert.KernelCx.nD Cert.KernelCx.τ Cert.KernelCx.sig) → Buf (Elt Bits) ℓ) (g : Dev Cert.KernelCx.nD → PrngReg), Pre_KernelCx m →
    θ_run (Cert.KernelCx.defs (F := Bits)) (onTc (τ := Cert.KernelCx.τ) (Cert.KernelCx.main (F := Bits))) ⟨m, fun _ => 0, g⟩ (fun r => (∀ c : Dev Cert.KernelCx.nD,
      r.2.mem ((c.tc : Thread Cert.KernelCx.nD Cert.KernelCx.τ).loc Cert.KernelCx.main_arg0) = m ((c.tc : Thread Cert.KernelCx.nD Cert.KernelCx.τ).loc Cert.KernelCx.main_arg0)
      ∧ r.2.mem ((c.tc : Thread Cert.KernelCx.nD Cert.KernelCx.τ).loc Cert.KernelCx.main_arg1) = m ((c.tc : Thread Cert.KernelCx.nD Cert.KernelCx.τ).loc Cert.KernelCx.main_arg1)
      ∧ r.2.mem ((c.tc : Thread Cert.KernelCx.nD Cert.KernelCx.τ).loc Cert.KernelCx.main_arg2) = m ((c.tc : Thread Cert.KernelCx.nD Cert.KernelCx.τ).loc Cert.KernelCx.main_arg2)
      ∧ r.2.mem ((c.tc : Thread Cert.KernelCx.nD Cert.KernelCx.τ).loc Cert.KernelCx.main_arg3) = m ((c.tc : Thread Cert.KernelCx.nD Cert.KernelCx.τ).loc Cert.KernelCx.main_arg3))
      ∧ r.2.sem = fun _ => 0)

def quiescent_KernelCxIdeal [hKernelCxIdeal : Cert.KernelCxIdeal.Facts] : Prop :=
  ∀ (m : (ℓ : Loc Cert.KernelCxIdeal.nD Cert.KernelCxIdeal.τ Cert.KernelCxIdeal.sig) → Buf (Elt Ideal) ℓ) (g : Dev Cert.KernelCxIdeal.nD → PrngReg), Pre_KernelCxIdeal m →
    θ_run (Cert.KernelCxIdeal.defs (F := Ideal)) (onTc (τ := Cert.KernelCxIdeal.τ) (Cert.KernelCxIdeal.main (F := Ideal))) ⟨m, fun _ => 0, g⟩ (fun r => (∀ c : Dev Cert.KernelCxIdeal.nD,
      r.2.mem ((c.tc : Thread Cert.KernelCxIdeal.nD Cert.KernelCxIdeal.τ).loc Cert.KernelCxIdeal.main_arg0) = m ((c.tc : Thread Cert.KernelCxIdeal.nD Cert.KernelCxIdeal.τ).loc Cert.KernelCxIdeal.main_arg0)
      ∧ r.2.mem ((c.tc : Thread Cert.KernelCxIdeal.nD Cert.KernelCxIdeal.τ).loc Cert.KernelCxIdeal.main_arg1) = m ((c.tc : Thread Cert.KernelCxIdeal.nD Cert.KernelCxIdeal.τ).loc Cert.KernelCxIdeal.main_arg1)
      ∧ r.2.mem ((c.tc : Thread Cert.KernelCxIdeal.nD Cert.KernelCxIdeal.τ).loc Cert.KernelCxIdeal.main_arg2) = m ((c.tc : Thread Cert.KernelCxIdeal.nD Cert.KernelCxIdeal.τ).loc Cert.KernelCxIdeal.main_arg2)
      ∧ r.2.mem ((c.tc : Thread Cert.KernelCxIdeal.nD Cert.KernelCxIdeal.τ).loc Cert.KernelCxIdeal.main_arg3) = m ((c.tc : Thread Cert.KernelCxIdeal.nD Cert.KernelCxIdeal.τ).loc Cert.KernelCxIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ShareIdeal_pre_routed_KernelIdeal [hKernelIdeal : Cert.KernelIdeal.Facts] [hShareIdeal : Cert.ShareIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ShareIdeal.nD Cert.ShareIdeal.τ Cert.ShareIdeal.sig) → Buf (Elt Ideal) ℓ) (g' : Dev Cert.ShareIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ShareIdeal.nD).tc : Thread Cert.ShareIdeal.nD Cert.ShareIdeal.τ).loc Cert.ShareIdeal.main_arg0)
      ∧ m ((c.tc : Thread Cert.KernelIdeal.nD Cert.KernelIdeal.τ).loc Cert.KernelIdeal.main_arg1) = m' (((0 : Dev Cert.ShareIdeal.nD).tc : Thread Cert.ShareIdeal.nD Cert.ShareIdeal.τ).loc Cert.ShareIdeal.main_arg1)
      ∧ m ((c.tc : Thread Cert.KernelIdeal.nD Cert.KernelIdeal.τ).loc Cert.KernelIdeal.main_arg2) = m' (((0 : Dev Cert.ShareIdeal.nD).tc : Thread Cert.ShareIdeal.nD Cert.ShareIdeal.τ).loc Cert.ShareIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ShareIdeal.nD).tc : Thread Cert.ShareIdeal.nD Cert.ShareIdeal.τ).loc Cert.ShareIdeal.main_arg3))) →
    ∃ (v0 : Buf (Elt Ideal) (((0 : Dev Cert.ShareIdeal.nD).tc : Thread Cert.ShareIdeal.nD Cert.ShareIdeal.τ).loc Cert.ShareIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![8192, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ShareIdeal.defs (F := Ideal)) (onTc (τ := Cert.ShareIdeal.τ) (Cert.ShareIdeal.main (F := Ideal))) ⟨m', fun _ => 0, g'⟩ (fun r =>
          r.2.mem (((0 : Dev Cert.ShareIdeal.nD).tc : Thread Cert.ShareIdeal.nD Cert.ShareIdeal.τ).loc Cert.ShareIdeal.main_v74) = v0
          ∧ r.2.mem (((0 : Dev Cert.ShareIdeal.nD).tc : Thread Cert.ShareIdeal.nD Cert.ShareIdeal.τ).loc Cert.ShareIdeal.main_arg0) = m' (((0 : Dev Cert.ShareIdeal.nD).tc : Thread Cert.ShareIdeal.nD Cert.ShareIdeal.τ).loc Cert.ShareIdeal.main_arg0)
          ∧ r.2.mem (((0 : Dev Cert.ShareIdeal.nD).tc : Thread Cert.ShareIdeal.nD Cert.ShareIdeal.τ).loc Cert.ShareIdeal.main_arg1) = m' (((0 : Dev Cert.ShareIdeal.nD).tc : Thread Cert.ShareIdeal.nD Cert.ShareIdeal.τ).loc Cert.ShareIdeal.main_arg1)
          ∧ r.2.mem (((0 : Dev Cert.ShareIdeal.nD).tc : Thread Cert.ShareIdeal.nD Cert.ShareIdeal.τ).loc Cert.ShareIdeal.main_arg2) = m' (((0 : Dev Cert.ShareIdeal.nD).tc : Thread Cert.ShareIdeal.nD Cert.ShareIdeal.τ).loc Cert.ShareIdeal.main_arg2)
          ∧ r.2.mem (((0 : Dev Cert.ShareIdeal.nD).tc : Thread Cert.ShareIdeal.nD Cert.ShareIdeal.τ).loc Cert.ShareIdeal.main_arg3) = m' (((0 : Dev Cert.ShareIdeal.nD).tc : Thread Cert.ShareIdeal.nD Cert.ShareIdeal.τ).loc Cert.ShareIdeal.main_arg3))

def algebraic_TotalIdeal_FullIdeal_pre_counted [hTotalIdeal : Cert.TotalIdeal.Facts] [hFullIdeal : Cert.FullIdeal.Facts] [hPre_counted : Cert.Pre_counted.Facts] : Prop :=
  ∀ (m : (ℓ : Loc Cert.TotalIdeal.nD Cert.TotalIdeal.τ Cert.TotalIdeal.sig) → Buf (Elt Ideal) ℓ) (g : Dev Cert.TotalIdeal.nD → PrngReg)
    (m' : (ℓ : Loc Cert.FullIdeal.nD Cert.FullIdeal.τ Cert.FullIdeal.sig) → Buf (Elt Ideal) ℓ) (g' : Dev Cert.FullIdeal.nD → PrngReg), Pre_TotalIdeal_counted m →
    (∀ c : Dev Cert.TotalIdeal.nD,
      m' ((c.tc : Thread Cert.FullIdeal.nD Cert.FullIdeal.τ).loc Cert.FullIdeal.main_arg0) = m ((c.tc : Thread Cert.TotalIdeal.nD Cert.TotalIdeal.τ).loc Cert.TotalIdeal.main_arg0)
      ∧ m' ((c.tc : Thread Cert.FullIdeal.nD Cert.FullIdeal.τ).loc Cert.FullIdeal.main_arg1) = m ((c.tc : Thread Cert.TotalIdeal.nD Cert.TotalIdeal.τ).loc Cert.TotalIdeal.main_arg1)
      ∧ m' ((c.tc : Thread Cert.FullIdeal.nD Cert.FullIdeal.τ).loc Cert.FullIdeal.main_arg2) = m ((c.tc : Thread Cert.TotalIdeal.nD Cert.TotalIdeal.τ).loc Cert.TotalIdeal.main_arg2)
      ∧ m' ((c.tc : Thread Cert.FullIdeal.nD Cert.FullIdeal.τ).loc Cert.FullIdeal.main_arg3) = m ((c.tc : Thread Cert.TotalIdeal.nD Cert.TotalIdeal.τ).loc Cert.TotalIdeal.main_arg3)) →
    ∃ (v0 : (c : Dev Cert.TotalIdeal.nD) → Buf (Elt Ideal) ((c.tc : Thread Cert.TotalIdeal.nD Cert.TotalIdeal.τ).loc Cert.TotalIdeal.main_v76)),
      θ_run (Cert.TotalIdeal.defs (F := Ideal)) (onTc (τ := Cert.TotalIdeal.τ) (Cert.TotalIdeal.main (F := Ideal))) ⟨m, fun _ => 0, g⟩ (fun r => ∀ c : Dev Cert.TotalIdeal.nD,
          r.2.mem ((c.tc : Thread Cert.TotalIdeal.nD Cert.TotalIdeal.τ).loc Cert.TotalIdeal.main_v76) = v0 c
          ∧ r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0)
          ∧ r.2.mem ((c.tc : Thread Cert.TotalIdeal.nD Cert.TotalIdeal.τ).loc Cert.TotalIdeal.main_arg1) = m ((c.tc : Thread Cert.TotalIdeal.nD Cert.TotalIdeal.τ).loc Cert.TotalIdeal.main_arg1)
          ∧ r.2.mem ((c.tc : Thread Cert.TotalIdeal.nD Cert.TotalIdeal.τ).loc Cert.TotalIdeal.main_arg2) = m ((c.tc : Thread Cert.TotalIdeal.nD Cert.TotalIdeal.τ).loc Cert.TotalIdeal.main_arg2)
          ∧ r.2.mem ((c.tc : Thread Cert.TotalIdeal.nD Cert.TotalIdeal.τ).loc Cert.TotalIdeal.main_arg3) = m ((c.tc : Thread Cert.TotalIdeal.nD Cert.TotalIdeal.τ).loc Cert.TotalIdeal.main_arg3))
      ∧ θ_run (Cert.FullIdeal.defs (F := Ideal)) (onTc (τ := Cert.FullIdeal.τ) (Cert.FullIdeal.main (F := Ideal))) ⟨m', fun _ => 0, g'⟩ (fun r => ∀ c : Dev Cert.FullIdeal.nD,
          r.2.mem ((c.tc : Thread Cert.FullIdeal.nD Cert.FullIdeal.τ).loc Cert.FullIdeal.main_v41) = v0 c
          ∧ r.2.mem ((c.tc : Thread Cert.FullIdeal.nD Cert.FullIdeal.τ).loc Cert.FullIdeal.main_arg0) = m' ((c.tc : Thread Cert.FullIdeal.nD Cert.FullIdeal.τ).loc Cert.FullIdeal.main_arg0)
          ∧ r.2.mem ((c.tc : Thread Cert.FullIdeal.nD Cert.FullIdeal.τ).loc Cert.FullIdeal.main_arg1) = m' ((c.tc : Thread Cert.FullIdeal.nD Cert.FullIdeal.τ).loc Cert.FullIdeal.main_arg1)
          ∧ r.2.mem ((c.tc : Thread Cert.FullIdeal.nD Cert.FullIdeal.τ).loc Cert.FullIdeal.main_arg2) = m' ((c.tc : Thread Cert.FullIdeal.nD Cert.FullIdeal.τ).loc Cert.FullIdeal.main_arg2)
          ∧ r.2.mem ((c.tc : Thread Cert.FullIdeal.nD Cert.FullIdeal.τ).loc Cert.FullIdeal.main_arg3) = m' ((c.tc : Thread Cert.FullIdeal.nD Cert.FullIdeal.τ).loc Cert.FullIdeal.main_arg3))

def preserves_KernelCx_KernelCxIdeal : Prop :=
  True

def disproves_algebraic_KernelCxIdeal_ReferenceIdeal [hKernelCxIdeal : Cert.KernelCxIdeal.Facts] [hReferenceIdeal : Cert.ReferenceIdeal.Facts] : Prop :=
  ∀ (m : (ℓ : Loc Cert.KernelCxIdeal.nD Cert.KernelCxIdeal.τ Cert.KernelCxIdeal.sig) → Buf (Elt Ideal) ℓ) (g : Dev Cert.KernelCxIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg),
    (∀ c : Dev Cert.KernelCxIdeal.nD,
      m ((c.tc : Thread Cert.KernelCxIdeal.nD Cert.KernelCxIdeal.τ).loc Cert.KernelCxIdeal.main_arg0) = Cert.Cx_KernelCxIdeal.arg0 (F := Ideal)
      ∧ m ((c.tc : Thread Cert.KernelCxIdeal.nD Cert.KernelCxIdeal.τ).loc Cert.KernelCxIdeal.main_arg1) = Cert.Cx_KernelCxIdeal.arg1 (F := Ideal)
      ∧ m ((c.tc : Thread Cert.KernelCxIdeal.nD Cert.KernelCxIdeal.τ).loc Cert.KernelCxIdeal.main_arg2) = Cert.Cx_KernelCxIdeal.arg2
      ∧ m ((c.tc : Thread Cert.KernelCxIdeal.nD Cert.KernelCxIdeal.τ).loc Cert.KernelCxIdeal.main_arg3) = Layout.block ⟨3, ![4, 1, 1]⟩ ⟨3, ![32, 1, 1]⟩ 0 8 c (Cert.Cx_KernelCxIdeal.arg3 (F := Ideal))) →
    (∀ c : Dev Cert.KernelCxIdeal.nD,
      m ((c.tc : Thread Cert.KernelCxIdeal.nD Cert.KernelCxIdeal.τ).loc Cert.KernelCxIdeal.main_arg0) = m' (((0 : Dev Cert.ReferenceIdeal.nD).tc : Thread Cert.ReferenceIdeal.nD Cert.ReferenceIdeal.τ).loc Cert.ReferenceIdeal.main_arg0)
      ∧ m ((c.tc : Thread Cert.KernelCxIdeal.nD Cert.KernelCxIdeal.τ).loc Cert.KernelCxIdeal.main_arg1) = m' (((0 : Dev Cert.ReferenceIdeal.nD).tc : Thread Cert.ReferenceIdeal.nD Cert.ReferenceIdeal.τ).loc Cert.ReferenceIdeal.main_arg1)
      ∧ m ((c.tc : Thread Cert.KernelCxIdeal.nD Cert.KernelCxIdeal.τ).loc Cert.KernelCxIdeal.main_arg2) = m' (((0 : Dev Cert.ReferenceIdeal.nD).tc : Thread Cert.ReferenceIdeal.nD Cert.ReferenceIdeal.τ).loc Cert.ReferenceIdeal.main_arg2)
      ∧ m ((c.tc : Thread Cert.KernelCxIdeal.nD Cert.KernelCxIdeal.τ).loc Cert.KernelCxIdeal.main_arg3) = Layout.block ⟨3, ![4, 1, 1]⟩ ⟨3, ![32, 1, 1]⟩ 0 8 c (m' (((0 : Dev Cert.ReferenceIdeal.nD).tc : Thread Cert.ReferenceIdeal.nD Cert.ReferenceIdeal.τ).loc Cert.ReferenceIdeal.main_arg3))) →
    Pre_KernelCxIdeal m
    ∧ ∃ (v0 : Buf (Elt Ideal) (((0 : Dev Cert.ReferenceIdeal.nD).tc : Thread Cert.ReferenceIdeal.nD Cert.ReferenceIdeal.τ).loc Cert.ReferenceIdeal.main_v43)),
      θ_run (Cert.KernelCxIdeal.defs (F := Ideal)) (onTc (τ := Cert.KernelCxIdeal.τ) (Cert.KernelCxIdeal.main (F := Ideal))) ⟨m, fun _ => 0, g⟩ (fun r => ¬ (∀ c : Dev Cert.KernelCxIdeal.nD,
          r.2.mem ((c.tc : Thread Cert.KernelCxIdeal.nD Cert.KernelCxIdeal.τ).loc Cert.KernelCxIdeal.main_v3) = v0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0)

def Claim : Prop :=
  ∃ (hKernel : Cert.Kernel.Facts) (hKernelIdeal : Cert.KernelIdeal.Facts) (hShareIdeal : Cert.ShareIdeal.Facts) (hTotalIdeal : Cert.TotalIdeal.Facts) (hFullIdeal : Cert.FullIdeal.Facts) (hKernelCx : Cert.KernelCx.Facts) (hKernelCxIdeal : Cert.KernelCxIdeal.Facts) (hReferenceIdeal : Cert.ReferenceIdeal.Facts) (hPre_routed_KernelIdeal : Cert.Pre_routed_KernelIdeal.Facts) (hPre_routed_ShareIdeal : Cert.Pre_routed_ShareIdeal.Facts) (hPre_counted : Cert.Pre_counted.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ShareIdeal (hShareIdeal := hShareIdeal)
    ∧ quiescent_ShareIdeal_pre_routed_ShareIdeal (hShareIdeal := hShareIdeal) (hPre_routed_ShareIdeal := hPre_routed_ShareIdeal)
    ∧ quiescent_TotalIdeal (hTotalIdeal := hTotalIdeal)
    ∧ quiescent_TotalIdeal_pre_counted (hTotalIdeal := hTotalIdeal) (hPre_counted := hPre_counted)
    ∧ quiescent_FullIdeal (hFullIdeal := hFullIdeal)
    ∧ quiescent_FullIdeal_pre_counted (hFullIdeal := hFullIdeal) (hPre_counted := hPre_counted)
    ∧ quiescent_KernelCx (hKernelCx := hKernelCx)
    ∧ quiescent_KernelCxIdeal (hKernelCxIdeal := hKernelCxIdeal)
    ∧ quiescent_ReferenceIdeal (hReferenceIdeal := hReferenceIdeal)
    ∧ preserves_Kernel_KernelIdeal
    ∧ algebraic_KernelIdeal_ShareIdeal_pre_routed_KernelIdeal (hKernelIdeal := hKernelIdeal) (hShareIdeal := hShareIdeal) (hPre_routed_KernelIdeal := hPre_routed_KernelIdeal)
    ∧ algebraic_TotalIdeal_FullIdeal_pre_counted (hTotalIdeal := hTotalIdeal) (hFullIdeal := hFullIdeal) (hPre_counted := hPre_counted)
    ∧ preserves_KernelCx_KernelCxIdeal
    ∧ disproves_algebraic_KernelCxIdeal_ReferenceIdeal (hKernelCxIdeal := hKernelCxIdeal) (hReferenceIdeal := hReferenceIdeal)
-- ==== Cx_KernelCxIdeal.lean ====
noncomputable def arg0_words : Fin 1 → Fin 256 → BitVec 32 :=
  ![
    ![0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32,
      0x3F800000#32, 0x3F800000#32, 0x3F800000#32, 0x3F800000#32, 0x3F800000#32, 0x3F800000#32, 0x3F800000#32, 0x3F800000#32] ]
noncomputable def arg0 {F : FTy → Type} [FloatOps F] : FVec F (⟨2, ![1, 256]⟩ : Shape) .f32 := fun i => FloatOps.ofBits .f32 (arg0_words (i 0) (i 1))

noncomputable def arg1_words : Fin 256 → Fin 32 → BitVec 32 :=
  ![
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32] ]
noncomputable def arg1 {F : FTy → Type} [FloatOps F] : FVec F (⟨2, ![256, 32]⟩ : Shape) .f32 := fun i => FloatOps.ofBits .f32 (arg1_words (i 0) (i 1))

noncomputable def arg2_words : Fin 1024 → Fin 2 → BitVec 32 :=
  ![
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32],
    ![0#32, 1#32] ]
noncomputable def arg2 : IVec (⟨2, ![1024, 2]⟩ : Shape) 32 := fun i => arg2_words (i 0) (i 1)

noncomputable def arg3_words : Fin 32 → Fin 1 → Fin 1 → BitVec 32 :=
  ![
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ],
    ![
      ![0x3F800000#32] ] ]
noncomputable def arg3 {F : FTy → Type} [FloatOps F] : FVec F (⟨3, ![32, 1, 1]⟩ : Shape) .f32 := fun i => FloatOps.ofBits .f32 (arg3_words (i 0) (i 1) (i 2))
-- ==== Pre_counted.lean ====
abbrev S1024x256 : Shape := ⟨2, ![1024, 256]⟩
abbrev S256x32 : Shape := ⟨2, ![256, 32]⟩
abbrev S1024x2 : Shape := ⟨2, ![1024, 2]⟩
abbrev S32x256x512 : Shape := ⟨3, ![32, 256, 512]⟩
abbrev S_ : Shape := ⟨0, ![]⟩

class Facts : Prop where
  bcast_S_S1024x2 : S_.BroadcastsInDim S1024x2 (![] : Fin 0 → Fin S1024x2.rank)

variable [Facts]

def fn {F : FTy → Type} [FloatOps F] (main_arg0 : FVec F S1024x256 .f32) (main_arg1 : FVec F S256x32 .f32) (main_arg2 : IVec S1024x2 32) (main_arg3 : FVec F S32x256x512 .f32) : IVec S1024x2 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  main_v1
-- ==== Pre_routed_KernelIdeal.lean ====
abbrev S1024x256 : Shape := ⟨2, ![1024, 256]⟩
abbrev S256x32 : Shape := ⟨2, ![256, 32]⟩
abbrev S1024x2 : Shape := ⟨2, ![1024, 2]⟩
abbrev S4x256x512 : Shape := ⟨3, ![4, 256, 512]⟩
abbrev S1024x1 : Shape := ⟨2, ![1024, 1]⟩
abbrev S1024 : Shape := ⟨1, ![1024]⟩
abbrev S_ : Shape := ⟨0, ![]⟩
abbrev S1024x256x1 : Shape := ⟨3, ![1024, 256, 1]⟩
abbrev S1x256x32 : Shape := ⟨3, ![1, 256, 32]⟩
abbrev S1024x256x32 : Shape := ⟨3, ![1024, 256, 32]⟩
abbrev S1024x1x1 : Shape := ⟨3, ![1024, 1, 1]⟩

class Facts : Prop where
  slices_S1024x2_S1024x1_0_0 : S1024x2.Slices ![0, 0] S1024x1
  shapeCasts_S1024x1_S1024 : S1024x1.ShapeCasts S1024
  slices_S1024x2_S1024x1_0_1 : S1024x2.Slices ![0, 1] S1024x1
  bcast_S_S1024 : S_.BroadcastsInDim S1024 (![] : Fin 0 → Fin S1024.rank)
  bcast_S_S1024x256 : S_.BroadcastsInDim S1024x256 (![] : Fin 0 → Fin S1024x256.rank)
  bcast_S1024x256_S1024x256x1_0_1 : S1024x256.BroadcastsInDim S1024x256x1 (![0, 1] : Fin 2 → Fin S1024x256x1.rank)
  bcast_S_S256x32 : S_.BroadcastsInDim S256x32 (![] : Fin 0 → Fin S256x32.rank)
  bcast_S256x32_S1x256x32_1_2 : S256x32.BroadcastsInDim S1x256x32 (![1, 2] : Fin 2 → Fin S1x256x32.rank)
  bcast_S1024x256x1_S1024x256x32_0_1_2 : S1024x256x1.BroadcastsInDim S1024x256x32 (![0, 1, 2] : Fin 3 → Fin S1024x256x32.rank)
  bcast_S1x256x32_S1024x256x32_0_1_2 : S1x256x32.BroadcastsInDim S1024x256x32 (![0, 1, 2] : Fin 3 → Fin S1024x256x32.rank)
  bcast_S1024_S1024x1x1_0 : S1024.BroadcastsInDim S1024x1x1 (![0] : Fin 1 → Fin S1024x1x1.rank)
  bcast_S1024x1x1_S1024x256x32_0_1_2 : S1024x1x1.BroadcastsInDim S1024x256x32 (![0, 1, 2] : Fin 3 → Fin S1024x256x32.rank)

variable [Facts]

def fn_part1 {F : FTy → Type} [FloatOps F] (main_arg1 : FVec F S256x32 .f32) (main_v16 : IVec S1024 1) (main_v17 : FVec F S1024x256 .f32) (main_v18 : FVec F S1024x256 .f32) : IVec S1024x256x32 1 :=
  let main_v19 : IVec S1024x256 1 := cmpf .olt main_v17 main_v18
  let main_v20 : IVec S1024x256x1 1 := broadcastInDim S1024x256x1 ![0, 1] bcast_S1024x256_S1024x256x1_0_1 main_v19
  let main_v21 : FVec F S256x32 .f32 := Host.absf main_arg1
  let main_cst_3 : FVec F S_ .f32 := constant S_ .f32 0x7F800000#32
  let main_v22 : FVec F S256x32 .f32 := broadcastInDim S256x32 ![] bcast_S_S256x32 main_cst_3
  let main_v23 : IVec S256x32 1 := cmpf .olt main_v21 main_v22
  let main_v24 : IVec S1x256x32 1 := broadcastInDim S1x256x32 ![1, 2] bcast_S256x32_S1x256x32_1_2 main_v23
  let main_v25 : IVec S1024x256x32 1 := broadcastInDim S1024x256x32 ![0, 1, 2] bcast_S1024x256x1_S1024x256x32_0_1_2 main_v20
  let main_v26 : IVec S1024x256x32 1 := broadcastInDim S1024x256x32 ![0, 1, 2] bcast_S1x256x32_S1024x256x32_0_1_2 main_v24
  let main_v27 : IVec S1024x256x32 1 := andi main_v25 main_v26
  let main_v28 : IVec S1024x1x1 1 := broadcastInDim S1024x1x1 ![0] bcast_S1024_S1024x1x1_0 main_v16
  let main_v29 : IVec S1024x256x32 1 := broadcastInDim S1024x256x32 ![0, 1, 2] bcast_S1024x1x1_S1024x256x32_0_1_2 main_v28
  let main_v30 : IVec S1024x256x32 1 := andi main_v27 main_v29
  main_v30

def fn {F : FTy → Type} [FloatOps F] (main_arg0 : FVec F S1024x256 .f32) (main_arg1 : FVec F S256x32 .f32) (main_arg2 : IVec S1024x2 32) (main_arg3 : FVec F S4x256x512 .f32) : IVec S1024x256x32 1 :=
  let main_v0 : IVec S1024x1 32 := (extractStridedSlice S1024x1 ![0, 0] · slices_S1024x2_S1024x1_0_0) main_arg2
  let main_v1 : IVec S1024 32 := shapeCast S1024 main_v0 shapeCasts_S1024x1_S1024
  let main_v2 : IVec S1024x1 32 := (extractStridedSlice S1024x1 ![0, 1] · slices_S1024x2_S1024x1_0_1) main_arg2
  let main_v3 : IVec S1024 32 := shapeCast S1024 main_v2 shapeCasts_S1024x1_S1024
  let main_c : IVec S_ 32 := constantI S_ 32 0#32
  let main_v4 : IVec S1024 32 := broadcastInDim S1024 ![] bcast_S_S1024 main_c
  let main_v5 : IVec S1024 1 := cmpi .sge main_v1 main_v4
  let main_c_0 : IVec S_ 32 := constantI S_ 32 32#32
  let main_v6 : IVec S1024 32 := broadcastInDim S1024 ![] bcast_S_S1024 main_c_0
  let main_v7 : IVec S1024 1 := cmpi .slt main_v1 main_v6
  let main_v8 : IVec S1024 1 := andi main_v5 main_v7
  let main_c_1 : IVec S_ 32 := constantI S_ 32 0#32
  let main_v9 : IVec S1024 32 := broadcastInDim S1024 ![] bcast_S_S1024 main_c_1
  let main_v10 : IVec S1024 1 := cmpi .sge main_v3 main_v9
  let main_v11 : IVec S1024 1 := andi main_v8 main_v10
  let main_c_2 : IVec S_ 32 := constantI S_ 32 32#32
  let main_v12 : IVec S1024 32 := broadcastInDim S1024 ![] bcast_S_S1024 main_c_2
  let main_v13 : IVec S1024 1 := cmpi .slt main_v3 main_v12
  let main_v14 : IVec S1024 1 := andi main_v11 main_v13
  let main_v15 : IVec S1024 1 := cmpi .ne main_v1 main_v3
  let main_v16 : IVec S1024 1 := andi main_v14 main_v15
  let main_v17 : FVec F S1024x256 .f32 := Host.absf main_arg0
  let main_cst : FVec F S_ .f32 := constant S_ .f32 0x7F800000#32
  let main_v18 : FVec F S1024x256 .f32 := broadcastInDim S1024x256 ![] bcast_S_S1024x256 main_cst
  fn_part1 (F := F) main_arg1 main_v16 main_v17 main_v18
-- ==== Pre_routed_ShareIdeal.lean ====
abbrev S1024x256 : Shape := ⟨2, ![1024, 256]⟩
abbrev S256x32 : Shape := ⟨2, ![256, 32]⟩
abbrev S1024x2 : Shape := ⟨2, ![1024, 2]⟩
abbrev S32x256x512 : Shape := ⟨3, ![32, 256, 512]⟩
abbrev S1024x1 : Shape := ⟨2, ![1024, 1]⟩
abbrev S1024 : Shape := ⟨1, ![1024]⟩
abbrev S_ : Shape := ⟨0, ![]⟩
abbrev S1024x256x1 : Shape := ⟨3, ![1024, 256, 1]⟩
abbrev S1x256x32 : Shape := ⟨3, ![1, 256, 32]⟩
abbrev S1024x256x32 : Shape := ⟨3, ![1024, 256, 32]⟩
abbrev S1024x1x1 : Shape := ⟨3, ![1024, 1, 1]⟩

class Facts : Prop where
  slices_S1024x2_S1024x1_0_0 : S1024x2.Slices ![0, 0] S1024x1
  shapeCasts_S1024x1_S1024 : S1024x1.ShapeCasts S1024
  slices_S1024x2_S1024x1_0_1 : S1024x2.Slices ![0, 1] S1024x1
  bcast_S_S1024 : S_.BroadcastsInDim S1024 (![] : Fin 0 → Fin S1024.rank)
  bcast_S_S1024x256 : S_.BroadcastsInDim S1024x256 (![] : Fin 0 → Fin S1024x256.rank)
  bcast_S1024x256_S1024x256x1_0_1 : S1024x256.BroadcastsInDim S1024x256x1 (![0, 1] : Fin 2 → Fin S1024x256x1.rank)
  bcast_S_S256x32 : S_.BroadcastsInDim S256x32 (![] : Fin 0 → Fin S256x32.rank)
  bcast_S256x32_S1x256x32_1_2 : S256x32.BroadcastsInDim S1x256x32 (![1, 2] : Fin 2 → Fin S1x256x32.rank)
  bcast_S1024x256x1_S1024x256x32_0_1_2 : S1024x256x1.BroadcastsInDim S1024x256x32 (![0, 1, 2] : Fin 3 → Fin S1024x256x32.rank)
  bcast_S1x256x32_S1024x256x32_0_1_2 : S1x256x32.BroadcastsInDim S1024x256x32 (![0, 1, 2] : Fin 3 → Fin S1024x256x32.rank)
  bcast_S1024_S1024x1x1_0 : S1024.BroadcastsInDim S1024x1x1 (![0] : Fin 1 → Fin S1024x1x1.rank)
  bcast_S1024x1x1_S1024x256x32_0_1_2 : S1024x1x1.BroadcastsInDim S1024x256x32 (![0, 1, 2] : Fin 3 → Fin S1024x256x32.rank)

variable [Facts]

def fn_part1 {F : FTy → Type} [FloatOps F] (main_arg1 : FVec F S256x32 .f32) (main_v16 : IVec S1024 1) (main_v17 : FVec F S1024x256 .f32) (main_v18 : FVec F S1024x256 .f32) : IVec S1024x256x32 1 :=
  let main_v19 : IVec S1024x256 1 := cmpf .olt main_v17 main_v18
  let main_v20 : IVec S1024x256x1 1 := broadcastInDim S1024x256x1 ![0, 1] bcast_S1024x256_S1024x256x1_0_1 main_v19
  let main_v21 : FVec F S256x32 .f32 := Host.absf main_arg1
  let main_cst_3 : FVec F S_ .f32 := constant S_ .f32 0x7F800000#32
  let main_v22 : FVec F S256x32 .f32 := broadcastInDim S256x32 ![] bcast_S_S256x32 main_cst_3
  let main_v23 : IVec S256x32 1 := cmpf .olt main_v21 main_v22
  let main_v24 : IVec S1x256x32 1 := broadcastInDim S1x256x32 ![1, 2] bcast_S256x32_S1x256x32_1_2 main_v23
  let main_v25 : IVec S1024x256x32 1 := broadcastInDim S1024x256x32 ![0, 1, 2] bcast_S1024x256x1_S1024x256x32_0_1_2 main_v20
  let main_v26 : IVec S1024x256x32 1 := broadcastInDim S1024x256x32 ![0, 1, 2] bcast_S1x256x32_S1024x256x32_0_1_2 main_v24
  let main_v27 : IVec S1024x256x32 1 := andi main_v25 main_v26
  let main_v28 : IVec S1024x1x1 1 := broadcastInDim S1024x1x1 ![0] bcast_S1024_S1024x1x1_0 main_v16
  let main_v29 : IVec S1024x256x32 1 := broadcastInDim S1024x256x32 ![0, 1, 2] bcast_S1024x1x1_S1024x256x32_0_1_2 main_v28
  let main_v30 : IVec S1024x256x32 1 := andi main_v27 main_v29
  main_v30

def fn {F : FTy → Type} [FloatOps F] (main_arg0 : FVec F S1024x256 .f32) (main_arg1 : FVec F S256x32 .f32) (main_arg2 : IVec S1024x2 32) (main_arg3 : FVec F S32x256x512 .f32) : IVec S1024x256x32 1 :=
  let main_v0 : IVec S1024x1 32 := (extractStridedSlice S1024x1 ![0, 0] · slices_S1024x2_S1024x1_0_0) main_arg2
  let main_v1 : IVec S1024 32 := shapeCast S1024 main_v0 shapeCasts_S1024x1_S1024
  let main_v2 : IVec S1024x1 32 := (extractStridedSlice S1024x1 ![0, 1] · slices_S1024x2_S1024x1_0_1) main_arg2
  let main_v3 : IVec S1024 32 := shapeCast S1024 main_v2 shapeCasts_S1024x1_S1024
  let main_c : IVec S_ 32 := constantI S_ 32 0#32
  let main_v4 : IVec S1024 32 := broadcastInDim S1024 ![] bcast_S_S1024 main_c
  let main_v5 : IVec S1024 1 := cmpi .sge main_v1 main_v4
  let main_c_0 : IVec S_ 32 := constantI S_ 32 32#32
  let main_v6 : IVec S1024 32 := broadcastInDim S1024 ![] bcast_S_S1024 main_c_0
  let main_v7 : IVec S1024 1 := cmpi .slt main_v1 main_v6
  let main_v8 : IVec S1024 1 := andi main_v5 main_v7
  let main_c_1 : IVec S_ 32 := constantI S_ 32 0#32
  let main_v9 : IVec S1024 32 := broadcastInDim S1024 ![] bcast_S_S1024 main_c_1
  let main_v10 : IVec S1024 1 := cmpi .sge main_v3 main_v9
  let main_v11 : IVec S1024 1 := andi main_v8 main_v10
  let main_c_2 : IVec S_ 32 := constantI S_ 32 32#32
  let main_v12 : IVec S1024 32 := broadcastInDim S1024 ![] bcast_S_S1024 main_c_2
  let main_v13 : IVec S1024 1 := cmpi .slt main_v3 main_v12
  let main_v14 : IVec S1024 1 := andi main_v11 main_v13
  let main_v15 : IVec S1024 1 := cmpi .ne main_v1 main_v3
  let main_v16 : IVec S1024 1 := andi main_v14 main_v15
  let main_v17 : FVec F S1024x256 .f32 := Host.absf main_arg0
  let main_cst : FVec F S_ .f32 := constant S_ .f32 0x7F800000#32
  let main_v18 : FVec F S1024x256 .f32 := broadcastInDim S1024x256 ![] bcast_S_S1024x256 main_cst
  fn_part1 (F := F) main_arg1 main_v16 main_v17 main_v18
-- ==== Kernel.lean ====
abbrev S1024x256 : Shape := ⟨2, ![1024, 256]⟩
abbrev S256x32 : Shape := ⟨2, ![256, 32]⟩
abbrev S1024x2 : Shape := ⟨2, ![1024, 2]⟩
abbrev S4x256x512 : Shape := ⟨3, ![4, 256, 512]⟩
abbrev S1024x512 : Shape := ⟨2, ![1024, 512]⟩
abbrev S2x3x256x512 : Shape := ⟨4, ![2, 3, 256, 512]⟩
abbrev S2x3 : Shape := ⟨2, ![2, 3]⟩
abbrev S_ : Shape := ⟨0, ![]⟩
abbrev S1024x32 : Shape := ⟨2, ![1024, 32]⟩
abbrev S1024 : Shape := ⟨1, ![1024]⟩
abbrev S1024x1 : Shape := ⟨2, ![1024, 1]⟩
abbrev S1x256x512 : Shape := ⟨3, ![1, 256, 512]⟩
abbrev S256x512 : Shape := ⟨2, ![256, 512]⟩

abbrev nBuf : Space → Nat
  | .hbm => 5
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S256x32, .f32⟩
  | .hbm, ⟨2, _⟩ => ⟨S1024x2, .i32⟩
  | .hbm, ⟨3, _⟩ => ⟨S4x256x512, .f32⟩
  | .hbm, ⟨4, _⟩ => ⟨S1024x512, .f32⟩
  | .local _ .vmem, ⟨0, _⟩ => ⟨S1024x256, .f32⟩
  | .local _ .vmem, ⟨1, _⟩ => ⟨S256x32, .f32⟩
  | .local _ .vmem, ⟨2, _⟩ => ⟨S1024x2, .i32⟩
  | .local _ .vmem, ⟨3, _⟩ => ⟨S4x256x512, .f32⟩
  | .local _ .vmem, ⟨4, _⟩ => ⟨S1024x512, .f32⟩
  | .local _ .vmem, ⟨5, _⟩ => ⟨S1024x512, .bf16⟩
  | .local _ .vmem, ⟨6, _⟩ => ⟨S2x3x256x512, .bf16⟩
  | .local _ .vmem, ⟨7, _⟩ => ⟨S4x256x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ShareIdeal.lean ====
abbrev S1024x256 : Shape := ⟨2, ![1024, 256]⟩
abbrev S256x32 : Shape := ⟨2, ![256, 32]⟩
abbrev S1024x2 : Shape := ⟨2, ![1024, 2]⟩
abbrev S32x256x512 : Shape := ⟨3, ![32, 256, 512]⟩
abbrev S1024x32 : Shape := ⟨2, ![1024, 32]⟩
abbrev S_ : Shape := ⟨0, ![]⟩
abbrev S1024 : Shape := ⟨1, ![1024]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1024x256x512 : Shape := ⟨3, ![1024, 256, 512]⟩
abbrev S1024x512 : Shape := ⟨2, ![1024, 512]⟩
abbrev S8 : Shape := ⟨1, ![8]⟩
abbrev S8x1 : Shape := ⟨2, ![8, 1]⟩
abbrev S1x1024 : Shape := ⟨2, ![1, 1024]⟩
abbrev S8x1024 : Shape := ⟨2, ![8, 1024]⟩
abbrev S8x1024x1 : Shape := ⟨3, ![8, 1024, 1]⟩
abbrev S1x1024x512 : Shape := ⟨3, ![1, 1024, 512]⟩
abbrev S8x1024x512 : Shape := ⟨3, ![8, 1024, 512]⟩
abbrev S8192x512 : Shape := ⟨2, ![8192, 512]⟩

abbrev nBuf : Space → Nat
  | .hbm => 140
  | .vmem => 0
  | .smem => 0
  | _ => 0

abbrev hbmTy0_0 (i : Nat) : BufTy := match i % 128 with
  | 0 => ⟨S1024x256, .f32⟩
  | 1 => ⟨S256x32, .f32⟩
  | 2 => ⟨S1024x2, .i32⟩
  | 3 => ⟨S32x256x512, .f32⟩
  | 4 => ⟨S1024x32, .f32⟩
  | 5 => ⟨S_, .f32⟩
  | 6 => ⟨S1024, .f32⟩
  | 7 => ⟨S1024x1, .f32⟩
  | 8 => ⟨S1024x32, .f32⟩
  | 9 => ⟨S1024x32, .f32⟩
  | 10 => ⟨S1024x32, .f32⟩
  | 11 => ⟨S_, .f32⟩
  | 12 => ⟨S1024, .f32⟩
  | 13 => ⟨S1024x1, .f32⟩
  | 14 => ⟨S1024x32, .f32⟩
  | 15 => ⟨S1024x32, .f32⟩
  | 16 => ⟨S1024x1, .i32⟩
  | 17 => ⟨S1024, .i32⟩
  | 18 => ⟨S1024x1, .i32⟩
  | 19 => ⟨S1024, .i32⟩
  | 20 => ⟨S1024x1, .i32⟩
  | 21 => ⟨S_, .i32⟩
  | 22 => ⟨S1024x1, .i32⟩
  | 23 => ⟨S1024x1, .i1⟩
  | 24 => ⟨S_, .i32⟩
  | 25 => ⟨S1024x1, .i32⟩
  | 26 => ⟨S1024x1, .i32⟩
  | 27 => ⟨S1024x1, .i32⟩
  | 28 => ⟨S1024x1x1, .i32⟩
  | 29 => ⟨S1, .i32⟩
  | 30 => ⟨S_, .i32⟩
  | 31 => ⟨S1024x1x1, .i32⟩
  | 32 => ⟨S1024x1x1, .i1⟩
  | 33 => ⟨S1x1x1, .i32⟩
  | 34 => ⟨S1024x1x1, .i32⟩
  | 35 => ⟨S1024x1x1, .i1⟩
  | 36 => ⟨S1024x1x1, .i1⟩
  | 37 => ⟨S_, .i1⟩
  | 38 => ⟨S1024x1, .i1⟩
  | 39 => ⟨S1024x1, .f32⟩
  | 40 => ⟨S_, .f32⟩
  | 41 => ⟨S1024x1, .f32⟩
  | 42 => ⟨S1024x1, .f32⟩
  | 43 => ⟨S1024x1, .i32⟩
  | 44 => ⟨S_, .i32⟩
  | 45 => ⟨S1024x1, .i32⟩
  | 46 => ⟨S1024x1, .i1⟩
  | 47 => ⟨S_, .i32⟩
  | 48 => ⟨S1024x1, .i32⟩
  | 49 => ⟨S1024x1, .i32⟩
  | 50 => ⟨S1024x1, .i32⟩
  | 51 => ⟨S1024x1x1, .i32⟩
  | 52 => ⟨S1, .i32⟩
  | 53 => ⟨S_, .i32⟩
  | 54 => ⟨S1024x1x1, .i32⟩
  | 55 => ⟨S1024x1x1, .i1⟩
  | 56 => ⟨S1x1x1, .i32⟩
  | 57 => ⟨S1024x1x1, .i32⟩
  | 58 => ⟨S1024x1x1, .i1⟩
  | 59 => ⟨S1024x1x1, .i1⟩
  | 60 => ⟨S_, .i1⟩
  | 61 => ⟨S1024x1, .i1⟩
  | 62 => ⟨S1024x1, .f32⟩
  | 63 => ⟨S_, .f32⟩
  | 64 => ⟨S1024x1, .f32⟩
  | 65 => ⟨S1024x1, .f32⟩
  | 66 => ⟨S1024x1, .f32⟩
  | 67 => ⟨S1024x1, .f32⟩
  | 68 => ⟨S_, .i32⟩
  | 69 => ⟨S1024, .i32⟩
  | 70 => ⟨S1024, .i1⟩
  | 71 => ⟨S_, .i32⟩
  | 72 => ⟨S1024, .i32⟩
  | 73 => ⟨S1024, .i32⟩
  | 74 => ⟨S1024, .i32⟩
  | 75 => ⟨S1024x1, .i32⟩
  | 76 => ⟨S1024x256x512, .f32⟩
  | 77 => ⟨S1024x512, .f32⟩
  | 78 => ⟨S1024x512, .f32⟩
  | 79 => ⟨S1024x512, .f32⟩
  | 80 => ⟨S1024x1, .f32⟩
  | 81 => ⟨S_, .i32⟩
  | 82 => ⟨S1024, .i32⟩
  | 83 => ⟨S1024, .i1⟩
  | 84 => ⟨S_, .i32⟩
  | 85 => ⟨S1024, .i32⟩
  | 86 => ⟨S1024, .i32⟩
  | 87 => ⟨S1024, .i32⟩
  | 88 => ⟨S1024x1, .i32⟩
  | 89 => ⟨S1024x256x512, .f32⟩
  | 90 => ⟨S1024x512, .f32⟩
  | 91 => ⟨S1024x512, .f32⟩
  | 92 => ⟨S1024x512, .f32⟩
  | 93 => ⟨S8, .i32⟩
  | 94 => ⟨S8x1, .i32⟩
  | 95 => ⟨S_, .i32⟩
  | 96 => ⟨S8x1, .i32⟩
  | 97 => ⟨S8x1, .i32⟩
  | 98 => ⟨S1x1024, .i32⟩
  | 99 => ⟨S8x1024, .i32⟩
  | 100 => ⟨S8x1024, .i32⟩
  | 101 => ⟨S8x1024, .i1⟩
  | 102 => ⟨S1x1024, .i32⟩
  | 103 => ⟨S_, .i32⟩
  | 104 => ⟨S8x1, .i32⟩
  | 105 => ⟨S8x1, .i32⟩
  | 106 => ⟨S8x1024, .i32⟩
  | 107 => ⟨S8x1024, .i32⟩
  | 108 => ⟨S8x1024, .i1⟩
  | 109 => ⟨S8x1024, .i1⟩
  | 110 => ⟨S1x1024, .i32⟩
  | 111 => ⟨S8x1024, .i32⟩
  | 112 => ⟨S8x1024, .i32⟩
  | 113 => ⟨S8x1024, .i1⟩
  | 114 => ⟨S1x1024, .i32⟩
  | 115 => ⟨S_, .i32⟩
  | 116 => ⟨S8x1, .i32⟩
  | 117 => ⟨S8x1, .i32⟩
  | 118 => ⟨S8x1024, .i32⟩
  | 119 => ⟨S8x1024, .i32⟩
  | 120 => ⟨S8x1024, .i1⟩
  | 121 => ⟨S8x1024, .i1⟩
  | 122 => ⟨S8x1024x1, .i1⟩
  | 123 => ⟨S1x1024x512, .f32⟩
  | 124 => ⟨S_, .f32⟩
  | 125 => ⟨S_, .f32⟩
  | 126 => ⟨S8x1024x512, .i1⟩
  | 127 => ⟨S8x1024x512, .f32⟩
  | _ => ⟨S1024x256, .f32⟩

abbrev hbmTy0_1 (i : Nat) : BufTy := match i % 128 with
  | 0 => ⟨S8x1024x512, .f32⟩
  | 1 => ⟨S8x1024x512, .f32⟩
  | 2 => ⟨S8x1024x1, .i1⟩
  | 3 => ⟨S1x1024x512, .f32⟩
  | 4 => ⟨S_, .f32⟩
  | 5 => ⟨S_, .f32⟩
  | 6 => ⟨S8x1024x512, .i1⟩
  | 7 => ⟨S8x1024x512, .f32⟩
  | 8 => ⟨S8x1024x512, .f32⟩
  | 9 => ⟨S8x1024x512, .f32⟩
  | 10 => ⟨S8x1024x512, .f32⟩
  | 11 => ⟨S8192x512, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_c : Ref sig .tc := ⟨.hbm, 68, rfl⟩
abbrev main_v20 : Ref sig .tc := ⟨.hbm, 69, rfl⟩
abbrev main_v21 : Ref sig .tc := ⟨.hbm, 70, rfl⟩
abbrev main_c_1 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_c_2 : Ref sig .tc := ⟨.hbm, 81, rfl⟩
abbrev main_v31 : Ref sig .tc := ⟨.hbm, 82, rfl⟩
abbrev main_v32 : Ref sig .tc := ⟨.hbm, 83, rfl⟩
abbrev main_c_3 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_c_4 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_c_5 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_c_6 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_7 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_cst_8 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩

abbrev nD : Nat := 1
abbrev τ : Topo := Topo.v7x

variable {F : FTy → Type} [FloatOps F]
-- ==== TotalIdeal.lean ====
abbrev S1024x256 : Shape := ⟨2, ![1024, 256]⟩
abbrev S256x32 : Shape := ⟨2, ![256, 32]⟩
abbrev S1024x2 : Shape := ⟨2, ![1024, 2]⟩
abbrev S32x256x512 : Shape := ⟨3, ![32, 256, 512]⟩
abbrev S1024x32 : Shape := ⟨2, ![1024, 32]⟩
abbrev S_ : Shape := ⟨0, ![]⟩
abbrev S1024 : Shape := ⟨1, ![1024]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1024x256x512 : Shape := ⟨3, ![1024, 256, 512]⟩
abbrev S1024x512 : Shape := ⟨2, ![1024, 512]⟩
abbrev S8 : Shape := ⟨1, ![8]⟩
abbrev S8x1 : Shape := ⟨2, ![8, 1]⟩
abbrev S1x1024 : Shape := ⟨2, ![1, 1024]⟩
abbrev S8x1024 : Shape := ⟨2, ![8, 1024]⟩
abbrev S8x1024x1 : Shape := ⟨3, ![8, 1024, 1]⟩
abbrev S1x1024x512 : Shape := ⟨3, ![1, 1024, 512]⟩
abbrev S8x1024x512 : Shape := ⟨3, ![8, 1024, 512]⟩
abbrev S8192x512 : Shape := ⟨2, ![8192, 512]⟩

abbrev nBuf : Space → Nat
  | .hbm => 143
  | .vmem => 0
  | .smem => 0
  | _ => 0

abbrev hbmTy0_0 (i : Nat) : BufTy := match i % 128 with
  | 0 => ⟨S1024x256, .f32⟩
  | 1 => ⟨S256x32, .f32⟩
  | 2 => ⟨S1024x2, .i32⟩
  | 3 => ⟨S32x256x512, .f32⟩
  | 4 => ⟨S1024x32, .f32⟩
  | 5 => ⟨S_, .f32⟩
  | 6 => ⟨S1024, .f32⟩
  | 7 => ⟨S1024x1, .f32⟩
  | 8 => ⟨S1024x32, .f32⟩
  | 9 => ⟨S1024x32, .f32⟩
  | 10 => ⟨S1024x32, .f32⟩
  | 11 => ⟨S_, .f32⟩
  | 12 => ⟨S1024, .f32⟩
  | 13 => ⟨S1024x1, .f32⟩
  | 14 => ⟨S1024x32, .f32⟩
  | 15 => ⟨S1024x32, .f32⟩
  | 16 => ⟨S1024x1, .i32⟩
  | 17 => ⟨S1024, .i32⟩
  | 18 => ⟨S1024x1, .i32⟩
  | 19 => ⟨S1024, .i32⟩
  | 20 => ⟨S1024x1, .i32⟩
  | 21 => ⟨S_, .i32⟩
  | 22 => ⟨S1024x1, .i32⟩
  | 23 => ⟨S1024x1, .i1⟩
  | 24 => ⟨S_, .i32⟩
  | 25 => ⟨S1024x1, .i32⟩
  | 26 => ⟨S1024x1, .i32⟩
  | 27 => ⟨S1024x1, .i32⟩
  | 28 => ⟨S1024x1x1, .i32⟩
  | 29 => ⟨S1, .i32⟩
  | 30 => ⟨S_, .i32⟩
  | 31 => ⟨S1024x1x1, .i32⟩
  | 32 => ⟨S1024x1x1, .i1⟩
  | 33 => ⟨S1x1x1, .i32⟩
  | 34 => ⟨S1024x1x1, .i32⟩
  | 35 => ⟨S1024x1x1, .i1⟩
  | 36 => ⟨S1024x1x1, .i1⟩
  | 37 => ⟨S_, .i1⟩
  | 38 => ⟨S1024x1, .i1⟩
  | 39 => ⟨S1024x1, .f32⟩
  | 40 => ⟨S_, .f32⟩
  | 41 => ⟨S1024x1, .f32⟩
  | 42 => ⟨S1024x1, .f32⟩
  | 43 => ⟨S1024x1, .i32⟩
  | 44 => ⟨S_, .i32⟩
  | 45 => ⟨S1024x1, .i32⟩
  | 46 => ⟨S1024x1, .i1⟩
  | 47 => ⟨S_, .i32⟩
  | 48 => ⟨S1024x1, .i32⟩
  | 49 => ⟨S1024x1, .i32⟩
  | 50 => ⟨S1024x1, .i32⟩
  | 51 => ⟨S1024x1x1, .i32⟩
  | 52 => ⟨S1, .i32⟩
  | 53 => ⟨S_, .i32⟩
  | 54 => ⟨S1024x1x1, .i32⟩
  | 55 => ⟨S1024x1x1, .i1⟩
  | 56 => ⟨S1x1x1, .i32⟩
  | 57 => ⟨S1024x1x1, .i32⟩
  | 58 => ⟨S1024x1x1, .i1⟩
  | 59 => ⟨S1024x1x1, .i1⟩
  | 60 => ⟨S_, .i1⟩
  | 61 => ⟨S1024x1, .i1⟩
  | 62 => ⟨S1024x1, .f32⟩
  | 63 => ⟨S_, .f32⟩
  | 64 => ⟨S1024x1, .f32⟩
  | 65 => ⟨S1024x1, .f32⟩
  | 66 => ⟨S1024x1, .f32⟩
  | 67 => ⟨S1024x1, .f32⟩
  | 68 => ⟨S_, .i32⟩
  | 69 => ⟨S1024, .i32⟩
  | 70 => ⟨S1024, .i1⟩
  | 71 => ⟨S_, .i32⟩
  | 72 => ⟨S1024, .i32⟩
  | 73 => ⟨S1024, .i32⟩
  | 74 => ⟨S1024, .i32⟩
  | 75 => ⟨S1024x1, .i32⟩
  | 76 => ⟨S1024x256x512, .f32⟩
  | 77 => ⟨S1024x512, .f32⟩
  | 78 => ⟨S1024x512, .f32⟩
  | 79 => ⟨S1024x512, .f32⟩
  | 80 => ⟨S1024x1, .f32⟩
  | 81 => ⟨S_, .i32⟩
  | 82 => ⟨S1024, .i32⟩
  | 83 => ⟨S1024, .i1⟩
  | 84 => ⟨S_, .i32⟩
  | 85 => ⟨S1024, .i32⟩
  | 86 => ⟨S1024, .i32⟩
  | 87 => ⟨S1024, .i32⟩
  | 88 => ⟨S1024x1, .i32⟩
  | 89 => ⟨S1024x256x512, .f32⟩
  | 90 => ⟨S1024x512, .f32⟩
  | 91 => ⟨S1024x512, .f32⟩
  | 92 => ⟨S1024x512, .f32⟩
  | 93 => ⟨S8, .i32⟩
  | 94 => ⟨S8x1, .i32⟩
  | 95 => ⟨S_, .i32⟩
  | 96 => ⟨S8x1, .i32⟩
  | 97 => ⟨S8x1, .i32⟩
  | 98 => ⟨S1x1024, .i32⟩
  | 99 => ⟨S8x1024, .i32⟩
  | 100 => ⟨S8x1024, .i32⟩
  | 101 => ⟨S8x1024, .i1⟩
  | 102 => ⟨S1x1024, .i32⟩
  | 103 => ⟨S_, .i32⟩
  | 104 => ⟨S8x1, .i32⟩
  | 105 => ⟨S8x1, .i32⟩
  | 106 => ⟨S8x1024, .i32⟩
  | 107 => ⟨S8x1024, .i32⟩
  | 108 => ⟨S8x1024, .i1⟩
  | 109 => ⟨S8x1024, .i1⟩
  | 110 => ⟨S1x1024, .i32⟩
  | 111 => ⟨S8x1024, .i32⟩
  | 112 => ⟨S8x1024, .i32⟩
  | 113 => ⟨S8x1024, .i1⟩
  | 114 => ⟨S1x1024, .i32⟩
  | 115 => ⟨S_, .i32⟩
  | 116 => ⟨S8x1, .i32⟩
  | 117 => ⟨S8x1, .i32⟩
  | 118 => ⟨S8x1024, .i32⟩
  | 119 => ⟨S8x1024, .i32⟩
  | 120 => ⟨S8x1024, .i1⟩
  | 121 => ⟨S8x1024, .i1⟩
  | 122 => ⟨S8x1024x1, .i1⟩
  | 123 => ⟨S1x1024x512, .f32⟩
  | 124 => ⟨S_, .f32⟩
  | 125 => ⟨S_, .f32⟩
  | 126 => ⟨S8x1024x512, .i1⟩
  | 127 => ⟨S8x1024x512, .f32⟩
  | _ => ⟨S1024x256, .f32⟩

abbrev hbmTy0_1 (i : Nat) : BufTy := match i % 128 with
  | 0 => ⟨S8x1024x512, .f32⟩
  | 1 => ⟨S8x1024x512, .f32⟩
  | 2 => ⟨S8x1024x1, .i1⟩
  | 3 => ⟨S1x1024x512, .f32⟩
  | 4 => ⟨S_, .f32⟩
  | 5 => ⟨S_, .f32⟩
  | 6 => ⟨S8x1024x512, .i1⟩
  | 7 => ⟨S8x1024x512, .f32⟩
  | 8 => ⟨S8x1024x512, .f32⟩
  | 9 => ⟨S8x1024x512, .f32⟩
  | 10 => ⟨S8x1024x512, .f32⟩
  | 11 => ⟨S8192x512, .f32⟩
  | 12 => ⟨S8x1024x512, .f32⟩
  | 13 => ⟨S_, .f32⟩
  | 14 => ⟨S1024x512, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_c : Ref sig .tc := ⟨.hbm, 68, rfl⟩
abbrev main_v20 : Ref sig .tc := ⟨.hbm, 69, rfl⟩
abbrev main_v21 : Ref sig .tc := ⟨.hbm, 70, rfl⟩
abbrev main_c_1 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_c_2 : Ref sig .tc := ⟨.hbm, 81, rfl⟩
abbrev main_v31 : Ref sig .tc := ⟨.hbm, 82, rfl⟩
abbrev main_v32 : Ref sig .tc := ⟨.hbm, 83, rfl⟩
abbrev main_c_3 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_c_4 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_c_5 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_c_6 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_7 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_cst_8 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_cst_9 : Ref sig .tc := ⟨.hbm, 141, rfl⟩
abbrev main_v76 : Ref sig .tc := ⟨.hbm, 142, rfl⟩

abbrev nD : Nat := 1
abbrev τ : Topo := Topo.v7x

variable {F : FTy → Type} [FloatOps F]
-- ==== FullIdeal.lean ====
abbrev S1024x256 : Shape := ⟨2, ![1024, 256]⟩
abbrev S256x32 : Shape := ⟨2, ![256, 32]⟩
abbrev S1024x2 : Shape := ⟨2, ![1024, 2]⟩
abbrev S32x256x512 : Shape := ⟨3, ![32, 256, 512]⟩
abbrev S1024x32 : Shape := ⟨2, ![1024, 32]⟩
abbrev S_ : Shape := ⟨0, ![]⟩
abbrev S1024 : Shape := ⟨1, ![1024]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1024x256x512 : Shape := ⟨3, ![1024, 256, 512]⟩
abbrev S1024x512 : Shape := ⟨2, ![1024, 512]⟩

abbrev nBuf : Space → Nat
  | .hbm => 94
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x32, .f32⟩
  | .hbm, ⟨2, _⟩ => ⟨S1024x2, .i32⟩
  | .hbm, ⟨3, _⟩ => ⟨S32x256x512, .f32⟩
  | .hbm, ⟨4, _⟩ => ⟨S1024x32, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x32, .f32⟩
  | .hbm, ⟨9, _⟩ => ⟨S1024x32, .f32⟩
  | .hbm, ⟨10, _⟩ => ⟨S1024x32, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x32, .f32⟩
  | .hbm, ⟨15, _⟩ => ⟨S1024x32, .f32⟩
  | .hbm, ⟨16, _⟩ => ⟨S1024x1, .i32⟩
  | .hbm, ⟨17, _⟩ => ⟨S1024, .i32⟩
  | .hbm, ⟨18, _⟩ => ⟨S1024x1, .i32⟩
  | .hbm, ⟨19, _⟩ => ⟨S1024, .i32⟩
  | .hbm, ⟨20, _⟩ => ⟨S1024x1, .i32⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S_, .i32⟩
  | .hbm, ⟨25, _⟩ => ⟨S1024x1, .i32⟩
  | .hbm, ⟨26, _⟩ => ⟨S1024x1, .i32⟩
  | .hbm, ⟨27, _⟩ => ⟨S1024x1, .i32⟩
  | .hbm, ⟨28, _⟩ => ⟨S1024x1x1, .i32⟩
  | .hbm, ⟨29, _⟩ => ⟨S1, .i32⟩
  | .hbm, ⟨30, _⟩ => ⟨S_, .i32⟩
  | .hbm, ⟨31, _⟩ => ⟨S1024x1x1, .i32⟩
  | .hbm, ⟨32, _⟩ => ⟨S1024x1x1, .i1⟩
  | .hbm, ⟨33, _⟩ => ⟨S1x1x1, .i32⟩
  | .hbm, ⟨34, _⟩ => ⟨S1024x1x1, .i32⟩
  | .hbm, ⟨35, _⟩ => ⟨S1024x1x1, .i1⟩
  | .hbm, ⟨36, _⟩ => ⟨S1024x1x1, .i1⟩
  | .hbm, ⟨37, _⟩ => ⟨S_, .i1⟩
  | .hbm, ⟨38, _⟩ => ⟨S1024x1, .i1⟩
  | .hbm, ⟨39, _⟩ => ⟨S1024x1, .f32⟩
  | .hbm, ⟨40, _⟩ => ⟨S_, .f32⟩
  | .hbm, ⟨41, _⟩ => ⟨S1024x1, .f32⟩
  | .hbm, ⟨42, _⟩ => ⟨S1024x1, .f32⟩
  | .hbm, ⟨43, _⟩ => ⟨S1024x1, .i32⟩
  | .hbm, ⟨44, _⟩ => ⟨S_, .i32⟩
  | .hbm, ⟨45, _⟩ => ⟨S1024x1, .i32⟩
  | .hbm, ⟨46, _⟩ => ⟨S1024x1, .i1⟩
  | .hbm, ⟨47, _⟩ => ⟨S_, .i32⟩
  | .hbm, ⟨48, _⟩ => ⟨S1024x1, .i32⟩
  | .hbm, ⟨49, _⟩ => ⟨S1024x1, .i32⟩
  | .hbm, ⟨50, _⟩ => ⟨S1024x1, .i32⟩
  | .hbm, ⟨51, _⟩ => ⟨S1024x1x1, .i32⟩
  | .hbm, ⟨52, _⟩ => ⟨S1, .i32⟩
  | .hbm, ⟨53, _⟩ => ⟨S_, .i32⟩
  | .hbm, ⟨54, _⟩ => ⟨S1024x1x1, .i32⟩
  | .hbm, ⟨55, _⟩ => ⟨S1024x1x1, .i1⟩
  | .hbm, ⟨56, _⟩ => ⟨S1x1x1, .i32⟩
  | .hbm, ⟨57, _⟩ => ⟨S1024x1x1, .i32⟩
  | .hbm, ⟨58, _⟩ => ⟨S1024x1x1, .i1⟩
  | .hbm, ⟨59, _⟩ => ⟨S1024x1x1, .i1⟩
  | .hbm, ⟨60, _⟩ => ⟨S_, .i1⟩
  | .hbm, ⟨61, _⟩ => ⟨S1024x1, .i1⟩
  | .hbm, ⟨62, _⟩ => ⟨S1024x1, .f32⟩
  | .hbm, ⟨63, _⟩ => ⟨S_, .f32⟩
  | .hbm, ⟨64, _⟩ => ⟨S1024x1, .f32⟩
  | .hbm, ⟨65, _⟩ => ⟨S1024x1, .f32⟩
  | .hbm, ⟨66, _⟩ => ⟨S1024x1, .f32⟩
  | .hbm, ⟨67, _⟩ => ⟨S_, .i32⟩
  | .hbm, ⟨68, _⟩ => ⟨S1024, .i32⟩
  | .hbm, ⟨69, _⟩ => ⟨S1024, .i1⟩
  | .hbm, ⟨70, _⟩ => ⟨S_, .i32⟩
  | .hbm, ⟨71, _⟩ => ⟨S1024, .i32⟩
  | .hbm, ⟨72, _⟩ => ⟨S1024, .i32⟩
  | .hbm, ⟨73, _⟩ => ⟨S1024, .i32⟩
  | .hbm, ⟨74, _⟩ => ⟨S1024x1, .i32⟩
  | .hbm, ⟨75, _⟩ => ⟨S1024x256x512, .f32⟩
  | .hbm, ⟨76, _⟩ => ⟨S1024x512, .f32⟩
  | .hbm, ⟨77, _⟩ => ⟨S_, .i32⟩
  | .hbm, ⟨78, _⟩ => ⟨S1024, .i32⟩
  | .hbm, ⟨79, _⟩ => ⟨S1024, .i1⟩
  | .hbm, ⟨80, _⟩ => ⟨S_, .i32⟩
  | .hbm, ⟨81, _⟩ => ⟨S1024, .i32⟩
  | .hbm, ⟨82, _⟩ => ⟨S1024, .i32⟩
  | .hbm, ⟨83, _⟩ => ⟨S1024, .i32⟩
  | .hbm, ⟨84, _⟩ => ⟨S1024x1, .i32⟩
  | .hbm, ⟨85, _⟩ => ⟨S1024x256x512, .f32⟩
  | .hbm, ⟨86, _⟩ => ⟨S1024x512, .f32⟩
  | .hbm, ⟨87, _⟩ => ⟨S1024x1, .f32⟩
  | .hbm, ⟨88, _⟩ => ⟨S1024x512, .f32⟩
  | .hbm, ⟨89, _⟩ => ⟨S1024x512, .f32⟩
  | .hbm, ⟨90, _⟩ => ⟨S1024x1, .f32⟩
  | .hbm, ⟨91, _⟩ => ⟨S1024x512, .f32⟩
  | .hbm, ⟨92, _⟩ => ⟨S1024x512, .f32⟩
  | .hbm, ⟨93, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v17 : Ref sig .tc := ⟨.hbm, 65, rfl⟩
abbrev main_v18 : Ref sig .tc := ⟨.hbm, 66, rfl⟩
abbrev main_c : Ref sig .tc := ⟨.hbm, 67, rfl⟩
abbrev main_v19 : Ref sig .tc := ⟨.hbm, 68, rfl⟩
abbrev main_v20 : Ref sig .tc := ⟨.hbm, 69, rfl⟩
abbrev main_c_1 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_c_2 : Ref sig .tc := ⟨.hbm, 77, rfl⟩
abbrev main_v27 : Ref sig .tc := ⟨.hbm, 78, rfl⟩
abbrev main_v28 : Ref sig .tc := ⟨.hbm, 79, rfl⟩
abbrev main_c_3 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩

abbrev nD : Nat := 1
abbrev τ : Topo := Topo.v7x

variable {F : FTy → Type} [FloatOps F]
-- ==== KernelCx.lean ====
abbrev S1x256 : Shape := ⟨2, ![1, 256]⟩
abbrev S256x32 : Shape := ⟨2, ![256, 32]⟩
abbrev S1024x2 : Shape := ⟨2, ![1024, 2]⟩
abbrev S4x1x1 : Shape := ⟨3, ![4, 1, 1]⟩
abbrev S1024x256 : Shape := ⟨2, ![1024, 256]⟩
abbrev S4x256x512 : Shape := ⟨3, ![4, 256, 512]⟩
abbrev S1024x512 : Shape := ⟨2, ![1024, 512]⟩
abbrev S2x3x256x512 : Shape := ⟨4, ![2, 3, 256, 512]⟩
abbrev S2x3 : Shape := ⟨2, ![2, 3]⟩
abbrev S_ : Shape := ⟨0, ![]⟩
abbrev S1024x32 : Shape := ⟨2, ![1024, 32]⟩
abbrev S1024 : Shape := ⟨1, ![1024]⟩
abbrev S1024x1 : Shape := ⟨2, ![1024, 1]⟩
abbrev S1x256x512 : Shape := ⟨3, ![1, 256, 512]⟩
abbrev S256x512 : Shape := ⟨2, ![256, 512]⟩

abbrev nBuf : Space → Nat
  | .hbm => 7
  | .vmem => 8
  | .smem => 0
  | _ => 0

abbrev bufTy : (tb : Table) → Fin (tcTables nBuf tb) → BufTy
  | .hbm, ⟨0, _⟩ => ⟨S1x256, .f32⟩
  | .hbm, ⟨1, _⟩ => ⟨S256x32, .f32⟩
  | .hbm, ⟨2, _⟩ => ⟨S1024x2, .i32⟩
  | .hbm, ⟨3, _⟩ => ⟨S4x1x1, .f32⟩
  | .hbm, ⟨4, _⟩ => ⟨S1024x256, .f32⟩
  | .hbm, ⟨5, _⟩ => ⟨S4x256x512, .f32⟩
  | .hbm, ⟨6, _⟩ => ⟨S1024x512, .f32⟩
  | .local _ .vmem, ⟨0, _⟩ => ⟨S1024x256, .f32⟩
  | .local _ .vmem, ⟨1, _⟩ => ⟨S256x32, .f32⟩
  | .local _ .vmem, ⟨2, _⟩ => ⟨S1024x2, .i32⟩
  | .local _ .vmem, ⟨3, _⟩ => ⟨S4x256x512, .f32⟩
  | .local _ .vmem, ⟨4, _⟩ => ⟨S1024x512, .f32⟩
  | .local _ .vmem, ⟨5, _⟩ => ⟨S1024x512, .bf16⟩
  | .local _ .vmem, ⟨6, _⟩ => ⟨S2x3x256x512, .bf16⟩
  | .local _ .vmem, ⟨7, _⟩ => ⟨S4x256x512, .bf16⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1x256 : Shape := ⟨2, ![1, 256]⟩
abbrev S256x32 : Shape := ⟨2, ![256, 32]⟩
abbrev S1024x2 : Shape := ⟨2, ![1024, 2]⟩
abbrev S32x1x1 : Shape := ⟨3, ![32, 1, 1]⟩
abbrev S1024x256 : Shape := ⟨2, ![1024, 256]⟩
abbrev S32x256x512 : Shape := ⟨3, ![32, 256, 512]⟩
abbrev S1024x32 : Shape := ⟨2, ![1024, 32]⟩
abbrev S_ : Shape := ⟨0, ![]⟩
abbrev S1024 : Shape := ⟨1, ![1024]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1024x256x512 : Shape := ⟨3, ![1024, 256, 512]⟩
abbrev S1024x512 : Shape := ⟨2, ![1024, 512]⟩

abbrev nBuf : Space → Nat
  | .hbm => 96
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S256x32, .f32⟩
  | .hbm, ⟨2, _⟩ => ⟨S1024x2, .i32⟩
  | .hbm, ⟨3, _⟩ => ⟨S32x1x1, .f32⟩
  | .hbm, ⟨4, _⟩ => ⟨S1024x256, .f32⟩
  | .hbm, ⟨5, _⟩ => ⟨S32x256x512, .f32⟩
  | .hbm, ⟨6, _⟩ => ⟨S1024x32, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x32, .f32⟩
  | .hbm, ⟨11, _⟩ => ⟨S1024x32, .f32⟩
  | .hbm, ⟨12, _⟩ => ⟨S1024x32, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x32, .f32⟩
  | .hbm, ⟨17, _⟩ => ⟨S1024x32, .f32⟩
  | .hbm, ⟨18, _⟩ => ⟨S1024x1, .i32⟩
  | .hbm, ⟨19, _⟩ => ⟨S1024, .i32⟩
  | .hbm, ⟨20, _⟩ => ⟨S1024x1, .i32⟩
  | .hbm, ⟨21, _⟩ => ⟨S1024, .i32⟩
  | .hbm, ⟨22, _⟩ => ⟨S1024x1, .i32⟩
  | .hbm, ⟨23, _⟩ => ⟨S_, .i32⟩
  | .hbm, ⟨24, _⟩ => ⟨S1024x1, .i32⟩
  | .hbm, ⟨25, _⟩ => ⟨S1024x1, .i1⟩
  | .hbm, ⟨26, _⟩ => ⟨S_, .i32⟩
  | .hbm, ⟨27, _⟩ => ⟨S1024x1, .i32⟩
  | .hbm, ⟨28, _⟩ => ⟨S1024x1, .i32⟩
  | .hbm, ⟨29, _⟩ => ⟨S1024x1, .i32⟩
  | .hbm, ⟨30, _⟩ => ⟨S1024x1x1, .i32⟩
  | .hbm, ⟨31, _⟩ => ⟨S1, .i32⟩
  | .hbm, ⟨32, _⟩ => ⟨S_, .i32⟩
  | .hbm, ⟨33, _⟩ => ⟨S1024x1x1, .i32⟩
  | .hbm, ⟨34, _⟩ => ⟨S1024x1x1, .i1⟩
  | .hbm, ⟨35, _⟩ => ⟨S1x1x1, .i32⟩
  | .hbm, ⟨36, _⟩ => ⟨S1024x1x1, .i32⟩
  | .hbm, ⟨37, _⟩ => ⟨S1024x1x1, .i1⟩
  | .hbm, ⟨38, _⟩ => ⟨S1024x1x1, .i1⟩
  | .hbm, ⟨39, _⟩ => ⟨S_, .i1⟩
  | .hbm, ⟨40, _⟩ => ⟨S1024x1, .i1⟩
  | .hbm, ⟨41, _⟩ => ⟨S1024x1, .f32⟩
  | .hbm, ⟨42, _⟩ => ⟨S_, .f32⟩
  | .hbm, ⟨43, _⟩ => ⟨S1024x1, .f32⟩
  | .hbm, ⟨44, _⟩ => ⟨S1024x1, .f32⟩
  | .hbm, ⟨45, _⟩ => ⟨S1024x1, .i32⟩
  | .hbm, ⟨46, _⟩ => ⟨S_, .i32⟩
  | .hbm, ⟨47, _⟩ => ⟨S1024x1, .i32⟩
  | .hbm, ⟨48, _⟩ => ⟨S1024x1, .i1⟩
  | .hbm, ⟨49, _⟩ => ⟨S_, .i32⟩
  | .hbm, ⟨50, _⟩ => ⟨S1024x1, .i32⟩
  | .hbm, ⟨51, _⟩ => ⟨S1024x1, .i32⟩
  | .hbm, ⟨52, _⟩ => ⟨S1024x1, .i32⟩
  | .hbm, ⟨53, _⟩ => ⟨S1024x1x1, .i32⟩
  | .hbm, ⟨54, _⟩ => ⟨S1, .i32⟩
  | .hbm, ⟨55, _⟩ => ⟨S_, .i32⟩
  | .hbm, ⟨56, _⟩ => ⟨S1024x1x1, .i32⟩
  | .hbm, ⟨57, _⟩ => ⟨S1024x1x1, .i1⟩
  | .hbm, ⟨58, _⟩ => ⟨S1x1x1, .i32⟩
  | .hbm, ⟨59, _⟩ => ⟨S1024x1x1, .i32⟩
  | .hbm, ⟨60, _⟩ => ⟨S1024x1x1, .i1⟩
  | .hbm, ⟨61, _⟩ => ⟨S1024x1x1, .i1⟩
  | .hbm, ⟨62, _⟩ => ⟨S_, .i1⟩
  | .hbm, ⟨63, _⟩ => ⟨S1024x1, .i1⟩
  | .hbm, ⟨64, _⟩ => ⟨S1024x1, .f32⟩
  | .hbm, ⟨65, _⟩ => ⟨S_, .f32⟩
  | .hbm, ⟨66, _⟩ => ⟨S1024x1, .f32⟩
  | .hbm, ⟨67, _⟩ => ⟨S1024x1, .f32⟩
  | .hbm, ⟨68, _⟩ => ⟨S1024x1, .f32⟩
  | .hbm, ⟨69, _⟩ => ⟨S_, .i32⟩
  | .hbm, ⟨70, _⟩ => ⟨S1024, .i32⟩
  | .hbm, ⟨71, _⟩ => ⟨S1024, .i1⟩
  | .hbm, ⟨72, _⟩ => ⟨S_, .i32⟩
  | .hbm, ⟨73, _⟩ => ⟨S1024, .i32⟩
  | .hbm, ⟨74, _⟩ => ⟨S1024, .i32⟩
  | .hbm, ⟨75, _⟩ => ⟨S1024, .i32⟩
  | .hbm, ⟨76, _⟩ => ⟨S1024x1, .i32⟩
  | .hbm, ⟨77, _⟩ => ⟨S1024x256x512, .f32⟩
  | .hbm, ⟨78, _⟩ => ⟨S1024x512, .f32⟩
  | .hbm, ⟨79, _⟩ => ⟨S_, .i32⟩
  | .hbm, ⟨80, _⟩ => ⟨S1024, .i32⟩
  | .hbm, ⟨81, _⟩ => ⟨S1024, .i1⟩
  | .hbm, ⟨82, _⟩ => ⟨S_, .i32⟩
  | .hbm, ⟨83, _⟩ => ⟨S1024, .i32⟩
  | .hbm, ⟨84, _⟩ => ⟨S1024, .i32⟩
  | .hbm, ⟨85, _⟩ => ⟨S1024, .i32⟩
  | .hbm, ⟨86, _⟩ => ⟨S1024x1, .i32⟩
  | .hbm, ⟨87, _⟩ => ⟨S1024x256x512, .f32⟩
  | .hbm, ⟨88, _⟩ => ⟨S1024x512, .f32⟩
  | .hbm, ⟨89, _⟩ => ⟨S1024x1, .f32⟩
  | .hbm, ⟨90, _⟩ => ⟨S1024x512, .f32⟩
  | .hbm, ⟨91, _⟩ => ⟨S1024x512, .f32⟩
  | .hbm, ⟨92, _⟩ => ⟨S1024x1, .f32⟩
  | .hbm, ⟨93, _⟩ => ⟨S1024x512, .f32⟩
  | .hbm, ⟨94, _⟩ => ⟨S1024x512, .f32⟩
  | .hbm, ⟨95, _⟩ => ⟨S1024x512, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v17 : Ref sig .tc := ⟨.hbm, 44, rfl⟩
abbrev main_v18 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v19 : Ref sig .tc := ⟨.hbm, 67, rfl⟩
abbrev main_v20 : Ref sig .tc := ⟨.hbm, 68, rfl⟩
abbrev main_c : Ref sig .tc := ⟨.hbm, 69, rfl⟩
abbrev main_v21 : Ref sig .tc := ⟨.hbm, 70, rfl⟩
abbrev main_v22 : Ref sig .tc := ⟨.hbm, 71, rfl⟩
abbrev main_c_1 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_c_2 : Ref sig .tc := ⟨.hbm, 79, rfl⟩
abbrev main_v29 : Ref sig .tc := ⟨.hbm, 80, rfl⟩
abbrev main_v30 : Ref sig .tc := ⟨.hbm, 81, rfl⟩
abbrev main_c_3 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩

abbrev nD : Nat := 1
abbrev τ : Topo := Topo.v7x

variable {F : FTy → Type} [FloatOps F]
-- ==== Proof.KernelIdealHand.lean ====
/-
# `KernelIdeal`: the run — the entry handshake of every device, then its local mixture

Every device raises the barrier semaphore of the three devices whose numbers differ from its own in one of the patterns
1, 3 and 4 (exclusive or), waits until its own has been raised three times, and then computes from its own blocks alone:
no transfer is started, and the semaphores of the transfers are left as found.

One barrier cell per device carries one round of three duties, one per pattern, of one unit each and no payload.
A pattern is its own inverse, so the token of a cell's duty `d` belongs to the device found from the cell's owner by
pattern `d`. Nothing is owed any more when a device waits, so the wait needs no order between cells.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.Regions
public import Idealize.ShloMosaic.Lib.Pipeline.CollectiveSegs
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-! ## Resources -/

/-- The handshake's rounds beside the pipeline's own. -/
abbrev UH : Type := URounds (GSem nD τ sig) (Fin 3)
abbrev UA : Type := UR sig nD τ × UH

local notation "𝕄" => MT nD τ sig Unit (Elt F) ℕ UA ℕ

abbrev EPipe : Emb (UR sig nD τ) (MT nD τ sig Unit (Elt F) ℕ UA ℕ) := embL
abbrev EHand : Emb UH (MT nD τ sig Unit (Elt F) ℕ UA ℕ) := embR

variable (m : (ℓ : Loc nD τ sig) → Buf (Elt F) ℓ) (ρ : Dev nD → PrngReg)

/-! ## The three partners of a device -/

set_option backward.proofsInPublic true in
/-- Device `c`'s partner under pattern `d`: its number with the bits of 1, 3 or 4 flipped. -/
def peer (d : Fin 3) (c : Dev nD) : Dev nD :=
  ⟨(c.val ^^^ (![1, 3, 4] : Fin 3 → ℕ) d) % 8, Nat.mod_lt _ (by decide)⟩

theorem peer_peer (d : Fin 3) (c : Dev nD) : peer d (peer d c) = c := by revert d c; decide

/-- A pattern, as a permutation of the devices. -/
def swap (d : Fin 3) : Dev nD ≃ Dev nD := ⟨peer d, peer d, peer_peer d, peer_peer d⟩

/-- The three device numbers the kernel computes are the partners. -/
theorem dev1_eq (c : Dev nD) : (⟨k0_dev1 c, k0_dev1_lt c⟩ : Dev nD) = peer 0 c := Fin.ext (by revert c; decide)
theorem dev2_eq (c : Dev nD) : (⟨k0_dev2 c, k0_dev2_lt c⟩ : Dev nD) = peer 1 c := Fin.ext (by revert c; decide)
theorem dev3_eq (c : Dev nD) : (⟨k0_dev3 c, k0_dev3_lt c⟩ : Dev nD) = peer 2 c := Fin.ext (by revert c; decide)

/-! ## Buffers, semaphores -/

abbrev xM : Memref sig .tc .vmem S1024x256 .f32 := Memref.whole cc0_stg0_0
abbrev rM : Memref sig .tc .vmem S256x32 .f32 := Memref.whole cc0_stg1_0
abbrev eM : Memref sig .tc .vmem S1024x2 .i32 := Memref.whole cc0_stg2_0
abbrev wM : Memref sig .tc .vmem S4x256x512 .f32 := Memref.whole cc0_stg3_0
abbrev oM : Memref sig .tc .vmem S1024x512 .f32 := Memref.whole cc0_stg4_0
abbrev accM : Memref sig .tc .vmem S1024x512 .bf16 := Memref.whole cc0_scratch0
abbrev bM : Memref sig .tc .vmem S4x256x512 .bf16 := Memref.whole cc0_scratch2

/-- The barrier semaphore of the handshake, and device `c`'s cell of it. -/
abbrev barS : Sem sig := (SemArray.scalar (sig.barrier 0 rfl) : Sems sig S_).sem
abbrev barCell (c : Dev nD) : GSem nD τ sig := ((c : Thread nD τ), .reg barS)

set_option backward.proofsInPublic true in
/-- The kernel's own semaphores: the 24 it would count transfers with, none used. -/
abbrev osem : Fin 24 → SemLoc sig := fun k => .dma (⟨5 + k.val, by have := k.isLt; show 5 + k.val < 29; omega⟩ : DmaSem sig)

theorem ownSemFacts : Pipeline.OwnSemFacts cfg0.spec osem := by decide

/-! ## What a device computes -/

abbrev slot0 : Rect S4x256x512 := Rect.unit (s := S4x256x512) ![0, 0, 0] S1x256x512.size inb_S4x256x512_S1x256x512_0_0_0
abbrev slot1 : Rect S4x256x512 := Rect.unit (s := S4x256x512) ![1, 0, 0] S1x256x512.size inb_S4x256x512_S1x256x512_1_0_0
abbrev slot2 : Rect S4x256x512 := Rect.unit (s := S4x256x512) ![2, 0, 0] S1x256x512.size inb_S4x256x512_S1x256x512_2_0_0
abbrev slot3 : Rect S4x256x512 := Rect.unit (s := S4x256x512) ![3, 0, 0] S1x256x512.size inb_S4x256x512_S1x256x512_3_0_0
abbrev colA : Rect S1024x2 := Rect.unit (s := S1024x2) ![0, 0] S1024x1.size inb_S1024x2_S1024x1_0_0
abbrev colB : Rect S1024x2 := Rect.unit (s := S1024x2) ![0, 1] S1024x1.size inb_S1024x2_S1024x1_0_1
abbrev accR : Rect S1024x512 := Rect.unit (s := S1024x512) ![0, 0] S1024x512.size inb_S1024x512_S1024x512_0_0

/-- The two columns of the chosen experts. -/
abbrev topA (e : (cc0_stg2_0 : Ref sig .tc).ty.Contents (Elt F)) : Vec F S1024x1 .i32 := eM.view.readAt (Elt F) colA.toLoadRect e
abbrev topB (e : (cc0_stg2_0 : Ref sig .tc).ty.Contents (Elt F)) : Vec F S1024x1 .i32 := eM.view.readAt (Elt F) colB.toLoadRect e

/-- Device `d`'s result from its four blocks: its activations `x`, the router's matrix `r`, the experts chosen per token
    `e`, its four experts' matrices `w`. -/
def mix (d : Dev nD) (x : Vec F S1024x256 .f32) (r : Vec F S256x32 .f32) (e : (cc0_stg2_0 : Ref sig .tc).ty.Contents (Elt F))
    (w : (cc0_stg3_0 : Ref sig .tc).ty.Contents (Elt F)) : Vec F S1024x512 .f32 :=
  have v2 : BitVec 32 := Scalar.remsi (Scalar.divsi (Dev.word d) 1#32) 8#32
  have v14 := k0_pay3 x
  have v26 := k0_pay4 x r
  have v27 : IVec S1024x32 32 := iota .tc S1024x32 32 [1] iota_S1024x32_d1_w32
  have v29 := k0_pay5 (F := F) (topA e)
  have v31 := k0_pay6 (F := F) (topB e)
  have v44 := k0_pay7 v26 v27 v29 (topB e)
  have v60 := k0_pay8 v2 v26 v27 v29 (topB e)
  have v67 := k0_pay9 v2 v29 (topB e)
  have v74 := k0_pay10 v2 v26 v27 v29 (topB e)
  have v76 := k0_pay11 v67 v74
  have v92 := k0_pay12 v2 v26 v27 v29 v31 v44
  have v108 := k0_pay13 v2 v26 v27 v29 v31 v44
  have v137 := k0_pay14 (wM.view.readAt (Elt F) slot0.toLoadRect w)
  have v143 := k0_pay15 (wM.view.readAt (Elt F) slot1.toLoadRect w)
  have v150 := k0_pay16 (wM.view.readAt (Elt F) slot2.toLoadRect w)
  have v157 := k0_pay17 (wM.view.readAt (Elt F) slot3.toLoadRect w)
  k0_pay1 v108 (k0_pay18 v14) (k0_pay19 v14 v60 v76 v137 v143) (k0_pay20 v92) v150 v157

/-- The four blocks as the pipeline stages them, read off the arrays the region finds. -/
def xIn (c : Dev nD) : (cc0_stg0_0 : Ref sig .tc).ty.Contents (Elt F) := (win0_0.blk (0 : Fin 1)).view.read (Elt F) (V m c (Pipeline.arrRef spec0 0))
def rIn (c : Dev nD) : (cc0_stg1_0 : Ref sig .tc).ty.Contents (Elt F) := (win0_1.blk (0 : Fin 1)).view.read (Elt F) (V m c (Pipeline.arrRef spec0 1))
def eIn (c : Dev nD) : (cc0_stg2_0 : Ref sig .tc).ty.Contents (Elt F) := (win0_2.blk (0 : Fin 1)).view.read (Elt F) (V m c (Pipeline.arrRef spec0 2))
def wIn (c : Dev nD) : (cc0_stg3_0 : Ref sig .tc).ty.Contents (Elt F) := (win0_3.blk (0 : Fin 1)).view.read (Elt F) (V m c (Pipeline.arrRef spec0 3))
def outAt (c : Dev nD) : (cc0_stg4_0 : Ref sig .tc).ty.Contents (Elt F) := mix c (xIn m c) (rIn m c) (eIn m c) (wIn m c)

/-! ### Reads of the narrowed experts' buffer after its four writes -/

/-- The buffer `f` with the slot at `s` overwritten by `a`. -/
abbrev put (s : Rect S4x256x512) (f : (cc0_scratch2 : Ref sig .tc).ty.Contents (Elt F)) (a : Vec F s.shape .bf16) :
    (cc0_scratch2 : Ref sig .tc).ty.Contents (Elt F) :=
  (bM.access s : View sig .tc _ _ _).write (Elt F) f a Finset.univ

omit [FloatOps F] in
theorem get_put (s : Rect S4x256x512) (f : (cc0_scratch2 : Ref sig .tc).ty.Contents (Elt F)) (a : Vec F s.shape .bf16) :
    bM.view.readAt (Elt F) s.toLoadRect (put s f a) = a := View.read_write_univ _ _

omit [FloatOps F] in
theorem get_put_ne (s s' : Rect S4x256x512) (h : LoadRect.disj s s'.toLoadRect = true)
    (f : (cc0_scratch2 : Ref sig .tc).ty.Contents (Elt F)) (a : Vec F s'.shape .bf16) :
    bM.view.readAt (Elt F) s.toLoadRect (put s' f a) = bM.view.readAt (Elt F) s.toLoadRect f :=
  View.read_slice_write_slice_of_disjoint (v := bM.view) (Val := Elt F) s s' f a Finset.univ (View.disjoint_slice_of_disj bM.view s s' h)

section Slots
variable (f : (cc0_scratch2 : Ref sig .tc).ty.Contents (Elt F)) (w0 w1 w2 w3 : Vec F S1x256x512 .bf16)

omit [FloatOps F] in
theorem get0 : bM.view.readAt (Elt F) slot0.toLoadRect (put slot3 (put slot2 (put slot1 (put slot0 f w0) w1) w2) w3) = w0 := by
  rw [get_put_ne slot0 slot3 (by decide), get_put_ne slot0 slot2 (by decide), get_put_ne slot0 slot1 (by decide), get_put]
omit [FloatOps F] in
theorem get1 : bM.view.readAt (Elt F) slot1.toLoadRect (put slot3 (put slot2 (put slot1 f w1) w2) w3) = w1 := by
  rw [get_put_ne slot1 slot3 (by decide), get_put_ne slot1 slot2 (by decide), get_put]
omit [FloatOps F] in
theorem get2 : bM.view.readAt (Elt F) slot2.toLoadRect (put slot3 (put slot2 f w2) w3) = w2 := by
  rw [get_put_ne slot2 slot3 (by decide), get_put]
end Slots

/-! ## The handshake's schedule -/

abbrev IsBar (g : GSem nD τ sig) : Prop := g.1.2 = .tc ∧ g.2 = .reg barS

/-- One round: three duties at a barrier cell, of one unit each, handing over nothing. -/
def hand : Rounds.Schedule (GSem nD τ sig) (Fin 3) 𝕄 where
  duties g r := if r = 0 ∧ IsBar g then Finset.univ else ∅
  unitless _ := False
  amount _ _ _ := 1
  payload _ _ _ := iprop(emp)
  amount_pos _ _ _ _ := Nat.one_pos

instance hand_storable (g : GSem nD τ sig) (r : ℕ) (d : Fin 3) : BI.Storable (upEmb : UEmb _ 𝕄) ((hand (F := F)).payload g r d) := by
  show BI.Storable upEmb (iprop(emp) : sProp 𝕄); infer_instance

omit [FloatOps F] in
theorem duties_bar (c : Dev nD) : (hand (F := F)).duties (barCell c) 0 = Finset.univ := by
  dsimp only [hand]; exact if_pos ⟨rfl, rfl, rfl⟩
omit [FloatOps F] in
theorem duties_later (g : GSem nD τ sig) : ∀ r, 1 ≤ r → (hand (F := F)).duties g r = ∅ :=
  fun r hr => by dsimp only [hand]; exact if_neg fun h => by omega
omit [FloatOps F] in
theorem expect_bar (c : Dev nD) : (hand (F := F)).expect (barCell c) 0 = 3 := by
  unfold Schedule.expect Schedule.amountOf
  rw [duties_bar]; dsimp only [hand]
  rw [Finset.sum_const, Finset.card_univ, Fintype.card_fin, smul_eq_mul]

/-! ## What a device owes; the levels -/

/-- Device `c` owes each partner's barrier cell a unit; the signals peel the summands from the right. -/
def owe₂ (c : Dev nD) : CellTallies nD τ sig Unit := tallyAt (barCell (peer 2 c)) () 1
def owe₁ (c : Dev nD) : CellTallies nD τ sig Unit := owe₂ c + tallyAt (barCell (peer 1 c)) () 1
def owe₀ (c : Dev nD) : CellTallies nD τ sig Unit := owe₁ c + tallyAt (barCell (peer 0 c)) () 1

def L (g : GSem nD τ sig) : Finset Unit := if g.1.2 = .tc then {()} else ∅
/-- Barrier cells above the staging cells. -/
def lv (g : GSem nD τ sig) (_ : Unit) : ℕ := if g.2 = .reg barS then 1 else 0

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {g : GSem nD τ sig} {u : Unit} (h : 0 < owe₀ c g u) : ∃ d, g = barCell (peer d c) := by
  unfold owe₀ owe₁ owe₂ at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

omit [FloatOps F] in
theorem mayWait_stage (c : Dev nD) (q : DmaSem sig) (O : CellTallies nD τ sig Unit) (hO : O = owe₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, rfl⟩ := owe_pos hg; exact Finset.mem_singleton_self _)
      (fun p hp => by rw [Finset.mem_singleton.mp hp]; dsimp only [lv]; rw [if_neg (fun h => by cases h)])
      (fun g u hg => by obtain ⟨d, rfl⟩ := owe_pos hg; dsimp only [lv]; rw [if_pos rfl]; decide)
  · rw [MayWait_zero]; iintro -; iempintro

/-! ## The pipeline's proof data -/

/-- The invariants device `c`'s body opens: its own cell's and its three partners'. -/
def invs (K : Dev nD → ℕ) (c : Dev nD) : sProp 𝕄 :=
  iprop(cellInv EHand hand (K c) (barCell c) ∗ cellInv EHand hand (K (peer 0 c)) (barCell (peer 0 c))
    ∗ cellInv EHand hand (K (peer 1 c)) (barCell (peer 1 c)) ∗ cellInv EHand hand (K (peer 2 c)) (barCell (peer 2 c)))

instance invs_persistent (K : Dev nD → ℕ) (c : Dev nD) : BI.Persistent (invs (F := F) K c) := by unfold invs; infer_instance

/-- The tokens of the duties device `c` pays. -/
def payToks (c : Dev nD) : sProp 𝕄 :=
  iprop(dutyTok EHand (barCell (peer 0 c)) 0 0 ∗ dutyTok EHand (barCell (peer 1 c)) 0 1 ∗ dutyTok EHand (barCell (peer 2 c)) 0 2)

/-- The handshake's ghost state device `c` starts from. -/
def ghost (K : Dev nD → ℕ) (c : Dev nD) : sProp 𝕄 :=
  iprop(invs K c ∗ atPos EHand (barCell c) 0 ∅ 0
    ∗ (reached EHand (barCell (peer 0 c)) 0 ∗ reached EHand (barCell (peer 1 c)) 0 ∗ reached EHand (barCell (peer 2 c)) 0)
    ∗ payToks c)

/-- That at some names, with the three units of credit at its own cell. -/
def entry (c : Dev nD) : sProp 𝕄 := iprop((∃ K, ghost K c) ∗ cred (tallyAt (barCell c) () 3))

/-- The kernel's own semaphores at zero and its scoped buffers at some contents: what the body carries through. -/
def scratch (c : Dev nD) : sProp 𝕄 :=
  iprop(Pipeline.ownSems0 (Ix := Unit) (Name := ℕ) (U := UA) (Lvl := ℕ) (Val := Elt F) (τ := τ) osem c
    ∗ Pipeline.scopedRest (Ix := Unit) (Name := ℕ) (U := UA) (Lvl := ℕ) (Val := Elt F) spec0 c)

def before (c : Dev nD) : sProp 𝕄 := iprop(entry c ∗ scratch c)
def after (c : Dev nD) : sProp 𝕄 := iprop(semVal (barCell c) 0 ∗ scratch c)

def dats (_ : Fin 1) (c : Dev nD) : Dat τ (Elt F) Unit ℕ UA ℕ cfg0 c where
  A w := V m c (Pipeline.arrRef spec0 w)
  after w _ := match w with
    | ⟨0, _⟩ => xIn m c
    | ⟨1, _⟩ => rIn m c
    | ⟨2, _⟩ => eIn m c
    | ⟨3, _⟩ => wIn m c
    | ⟨4, _⟩ => outAt m c
  Φ t := match t with
    | ⟨0, _⟩ => before c
    | ⟨_ + 1, _⟩ => after c
  q _ := fullShare
  owed t := match t with
    | ⟨0, _⟩ => owe₀ c
    | ⟨_ + 1, _⟩ => 0

abbrev 𝒱₀ : Variants := Variants.none

omit [FloatOps F] in
theorem owns_whole_eq (c : Dev nD) (b : Ref sig .tc) (X : b.ty.Contents (Elt F)) :
    (owns (Ix := Unit) (Name := ℕ) (U := UA) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdealRun

end
-- ==== Proof.KernelIdealBody.lean ====
/-
# `KernelIdeal`: the kernel's body, from the handshake's ghost state to the mixture
-/
module

public import proofs.«01_k».proof.Proof.KernelIdealHand

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UA ℕ

variable (m : (ℓ : Loc nD τ sig) → Buf (Elt F) ℓ) (ρ : Dev nD → PrngReg)

/-! ## The body -/

omit [FloatOps F] in
theorem zero2 : (![0, 0] : Fin 2 → Nat) = fun _ => 0 := funext fun a => by fin_cases a <;> rfl

abbrev xR : Rect S1024x256 := Rect.unit (s := S1024x256) ![0, 0] S1024x256.size inb_S1024x256_S1024x256_0_0
abbrev rR : Rect S256x32 := Rect.unit (s := S256x32) ![0, 0] S256x32.size inb_S256x32_S256x32_0_0

omit [FloatOps F] in
theorem read_x (f : (cc0_stg0_0 : Ref sig .tc).ty.Contents (Elt F)) : xM.view.readAt (Elt F) xR.toLoadRect f = f :=
  Memref.readAt_unit_zero (Elt F) cc0_stg0_0 zero2 _ f
omit [FloatOps F] in
theorem read_r (f : (cc0_stg1_0 : Ref sig .tc).ty.Contents (Elt F)) : rM.view.readAt (Elt F) rR.toLoadRect f = f :=
  Memref.readAt_unit_zero (Elt F) cc0_stg1_0 zero2 _ f
omit [FloatOps F] in
theorem write_out (f w : (cc0_stg4_0 : Ref sig .tc).ty.Contents (Elt F)) :
    ((oM : Memref sig .tc .vmem S1024x512 .f32).access accR : View sig .tc _ _ _).write (Elt F) f w Finset.univ = w :=
  Memref.write_access_unit_zero_univ (Elt F) cc0_stg4_0 zero2 _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_of (c : Dev nD) (b : Ref sig .tc) (f : Buf (Elt F) (((c : Dev nD) : Thread nD τ).loc b)) (X : b.ty.Contents (Elt F)) (h : f = X) :
    (((c : Thread nD τ).loc b) ↦{fullShare} f : sProp 𝕄) ⊢ stg c b X := by
  iintro H; iexists f; isplitr; · (ipureintro; exact h)
  iexact H

def bodyPre (c : Dev nD) : sProp 𝕄 :=
  iprop(before c ∗ (dats m 0 c).owesAt () (t0_0).castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(after c ∗ (dats m 0 c).owesAt () (t0_0).succ
    ∗ stg c cc0_stg0_0 (xIn m c) ∗ stg c cc0_stg1_0 (rIn m c) ∗ stg c cc0_stg2_0 (eIn m c) ∗ stg c cc0_stg3_0 (wIn m c)
    ∗ stg c cc0_stg4_0 (outAt m c))

set_option maxHeartbeats 4000000 in
set_option maxRecDepth 16384 in
/-- The body, one rule per effect in program order. -/
theorem sound_body (c : Dev nD) (Kt : PUnit → sProp 𝕄) :
    iprop(bodyPre m c ∗ (bodyPost m c -∗ Kt ⟨⟩))
      ⊢ wp frame (wpE (defs₀ (F := F)) 𝒱₀ c none) Set.univ (bodyAt0 (F := F) t0_0) Kt := by
  show _ ⊢ wp frame (wpE (defs₀ (F := F)) 𝒱₀ c none) Set.univ
    (cc0_body xM (Memref.isWhole_whole _) rM (Memref.isWhole_whole _) eM (Memref.isWhole_whole _) wM (Memref.isWhole_whole _)
      oM (Memref.isWhole_whole _) accM (Memref.isWhole_whole _) (Memref.whole cc0_scratch1) (Memref.isWhole_whole _) bM (Memref.isWhole_whole _)
      cc0_scratch3 cc0_scratch4 cc0_scratch5 cc0_scratch6) Kt
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre before entry scratch ghost invs payToks
  rw [scopedRest0_eq]
  iintro ⟨⟨⟨⟨⟨%K, ⟨#HI, #HI0, #HI1, #HI2⟩, Hat, ⟨#Hr0, #Hr1, #Hr2⟩, Ht0, Ht1, Ht2⟩, Hcred⟩, Hown, ⟨%fa, Hacc⟩, Hrb, ⟨%fw, Hwb⟩⟩,
    Ho, ⟨%d0, %g0, %hg0, Hx⟩, ⟨%d1, %g1, %hg1, Hr⟩, ⟨%d2, %g2, %hg2, He⟩, ⟨%d3, %g3, %hg3, Hw⟩, ⟨%d4, %g4, %hg4, Hout⟩⟩, Hk⟩
  have hx : g0 = xIn m c := by rw [hg0]; unfold Dat.before; rw [if_pos (fetch0_0 _)]; rfl
  have hr : g1 = rIn m c := by rw [hg1]; unfold Dat.before; rw [if_pos (fetch0_1 _)]; rfl
  have he : g2 = eIn m c := by rw [hg2]; unfold Dat.before; rw [if_pos (fetch0_2 _)]; rfl
  have hw : g3 = wIn m c := by rw [hg3]; unfold Dat.before; rw [if_pos (fetch0_3 _)]; rfl
  subst hx; subst hr; subst he; subst hw
  unfold Dat.owesAt Pipeline.owesWithin
  icases Ho with ⟨%W, %hW, HO⟩
  rw [show (dats m 0 c).owed (t0_0).castSucc = owe₀ c from rfl]
  simp only [dev1_eq c, dev2_eq c, dev3_eq c]
  -- the three signals
  iapply (Rounds.wp_signal 𝒱₀ EHand (hand (F := F)) (c : Thread nD τ) none (dst := (peer 0 c : Thread nD τ)) (κ := K (peer 0 c))
      (d := 0) (by rw [duties_bar]; exact Finset.mem_univ _) (by rfl) () (owe₁ c) rfl) $$ [HO Ht0]
  · isplitr; · iexact HI0
    isplitl [HO]; · iexact HO
    isplitl [Ht0]; · iexact Ht0
    isplitr; · iempintro
    iexact Hr0
  iintro HO
  unfold owe₁
  iapply (Rounds.wp_signal 𝒱₀ EHand (hand (F := F)) (c : Thread nD τ) none (dst := (peer 1 c : Thread nD τ)) (κ := K (peer 1 c))
      (d := 1) (by rw [duties_bar]; exact Finset.mem_univ _) (by rfl) () (owe₂ c) rfl) $$ [HO Ht1]
  · isplitr; · iexact HI1
    isplitl [HO]; · iexact HO
    isplitl [Ht1]; · iexact Ht1
    isplitr; · iempintro
    iexact Hr1
  iintro HO
  unfold owe₂
  iapply (Rounds.wp_signal 𝒱₀ EHand (hand (F := F)) (c : Thread nD τ) none (dst := (peer 2 c : Thread nD τ)) (κ := K (peer 2 c))
      (d := 2) (by rw [duties_bar]; exact Finset.mem_univ _) (by rfl) () 0 (zero_add _).symm) $$ [HO Ht2]
  · isplitr; · iexact HI2
    isplitl [HO]; · iexact HO
    isplitl [Ht2]; · iexact Ht2
    isplitr; · iempintro
    iexact Hr2
  iintro HO
  -- the wait for three
  iapply (Rounds.wp_wait_rest_token 𝒱₀ EHand (hand (F := F)) (c : Thread nD τ) none (κ := K c)
      (wpE_semWait_eq 𝒱₀ (c : Thread nD τ) none Set.univ) (Set.mem_univ _) () (O := 0) (W := W) (R := 0) (m := 0) (T := ∅)
      (by rw [expect_bar]; decide)) $$ [Hcred HO Hat]
  · isplitr; · iexact HI
    isplitl [Hcred]; · iexact Hcred
    isplitl [HO]; · iexact HO
    isplitr; · rw [MayWait_zero]; iempintro
    iexact Hat
  iintro ⟨HO, Hat, -, -⟩
  imod (Rounds.cell_close EHand (hand (F := F)) (Set.mem_univ (K c)) (fun h => h) (R := 0 + 1) (duties_later (barCell c))) $$ [Hat] with Hz
  · isplitr; · iexact HI
    iexact Hat
  -- the local computation
  iapply (wp_load 𝒱₀ (c : Thread nD τ) none Set.univ (m := xM) (Finset.subset_univ _)) $$ Hx; iintro Hx
  iapply (wp_load 𝒱₀ (c : Thread nD τ) none Set.univ (m := rM) (Finset.subset_univ _)) $$ Hr; iintro Hr
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := wM) (Finset.subset_univ _)) $$ Hw; iintro Hw
  iapply (wp_load 𝒱₀ (c : Thread nD τ) none Set.univ (m := bM) (Finset.subset_univ _)) $$ Hwb; iintro Hwb
  iapply (wp_store 𝒱₀ (c : Thread nD τ) none Set.univ (m := bM) (r := slot0) (Mk := Finset.univ) (Finset.subset_univ _)) $$ Hwb; iintro Hwb
  iapply (wp_load 𝒱₀ (c : Thread nD τ) none Set.univ (m := wM) (Finset.subset_univ _)) $$ Hw; iintro Hw
  iapply (wp_load 𝒱₀ (c : Thread nD τ) none Set.univ (m := bM) (Finset.subset_univ _)) $$ Hwb; iintro Hwb
  iapply (wp_store 𝒱₀ (c : Thread nD τ) none Set.univ (m := bM) (r := slot1) (Mk := Finset.univ) (Finset.subset_univ _)) $$ Hwb; iintro Hwb
  iapply (wp_load 𝒱₀ (c : Thread nD τ) none Set.univ (m := wM) (Finset.subset_univ _)) $$ Hw; iintro Hw
  iapply (wp_load 𝒱₀ (c : Thread nD τ) none Set.univ (m := bM) (Finset.subset_univ _)) $$ Hwb; iintro Hwb
  iapply (wp_store 𝒱₀ (c : Thread nD τ) none Set.univ (m := bM) (r := slot2) (Mk := Finset.univ) (Finset.subset_univ _)) $$ Hwb; iintro Hwb
  iapply (wp_load 𝒱₀ (c : Thread nD τ) none Set.univ (m := wM) (Finset.subset_univ _)) $$ Hw; iintro Hw
  iapply (wp_load 𝒱₀ (c : Thread nD τ) none Set.univ (m := bM) (Finset.subset_univ _)) $$ Hwb; iintro Hwb
  iapply (wp_store 𝒱₀ (c : Thread nD τ) none Set.univ (m := bM) (r := slot3) (Mk := Finset.univ) (Finset.subset_univ _)) $$ Hwb; iintro Hwb
  iapply (wp_load 𝒱₀ (c : Thread nD τ) none Set.univ (m := bM) (Finset.subset_univ _)) $$ Hwb; iintro Hwb
  iapply (wp_load 𝒱₀ (c : Thread nD τ) none Set.univ (m := bM) (Finset.subset_univ _)) $$ Hwb; iintro Hwb
  iapply (wp_load 𝒱₀ (c : Thread nD τ) none Set.univ (m := bM) (Finset.subset_univ _)) $$ Hwb; iintro Hwb
  iapply (wp_load 𝒱₀ (c : Thread nD τ) none Set.univ (m := bM) (Finset.subset_univ _)) $$ Hwb; iintro Hwb
  iapply (wp_load 𝒱₀ (c : Thread nD τ) none Set.univ (m := accM) (Finset.subset_univ _)) $$ Hacc; iintro Hacc
  iapply (wp_store 𝒱₀ (c : Thread nD τ) none Set.univ (m := accM) (r := accR) (Mk := Finset.univ) (Finset.subset_univ _)) $$ Hacc; iintro Hacc
  iapply (wp_load 𝒱₀ (c : Thread nD τ) none Set.univ (m := oM) (Finset.subset_univ _)) $$ Hout; iintro Hout
  iapply (wp_store 𝒱₀ (c : Thread nD τ) none Set.univ (m := oM) (r := accR) (Mk := Finset.univ) (Finset.subset_univ _)) $$ Hout; iintro Hout
  rw [write_out, wp_ret]; imodintro
  iapply Hk
  unfold bodyPost after scratch Dat.owesAt Pipeline.owesWithin
  rw [show (dats m 0 c).owed (t0_0).succ = 0 from rfl, scopedRest0_eq]
  isplitl [Hz Hown Hacc Hrb Hwb]
  · isplitl [Hz]; · iexact Hz
    isplitl [Hown]; · iexact Hown
    isplitl [Hacc]; · iexists _; iexact Hacc
    isplitl [Hrb]; · iexact Hrb
    iexists _; iexact Hwb
  isplitl [HO]
  · iexists (insert (SemLoc.reg barS, ()) W)
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [He]
  · iexists _; isplitr; · (ipureintro; rfl)
    iexact He
  isplitl [Hw]
  · iexists _; isplitr; · (ipureintro; rfl)
    iexact Hw
  iapply (stg_of c cc0_stg4_0 _ (outAt m c) ?_) $$ Hout
  rw [read_x, read_r, get0, get1, get2, get_put]
  rfl

set_option maxRecDepth 4000 in
/-- The library's body obligation on device `c`. -/
theorem body_obligation (c : Dev nD) : BodyObligation (dats (F := F) m 0 c) (defs₀ (F := F)) 𝒱₀ () Set.univ := fun t => by
  rw [fin_N0 t, bigSep_W0, bigSep_W0]
  simp only [owns_whole_eq]
  show bodyPre m c ⊢ wp frame (wpE (defs₀ (F := F)) 𝒱₀ c none) Set.univ (bodyAt0 (F := F) t0_0) (fun _ => bodyPost m c)
  iintro H
  iapply (sound_body m c fun _ => bodyPost m c)
  isplitl [H]; · iexact H
  iintro H; iexact H

end Cert.KernelIdealRun

end
-- ==== Proof.KernelIdealLaunch.lean ====
/-
# `KernelIdeal`: the launch — the handshake's cells funded on every device at once, and the run
-/
module

public import proofs.«01_k».proof.Proof.KernelIdealBody

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UA ℕ

variable (m : (ℓ : Loc nD τ sig) → Buf (Elt F) ℓ) (ρ : Dev nD → PrngReg)

/-! ## The launch's ghost state -/

theorem bar_inj : Function.Injective (barCell : Dev nD → GSem nD τ sig) :=
  fun a b h => Fin.ext (congrArg (fun g : GSem nD τ sig => g.1.1.val) h)

def barCells : Finset (GSem nD τ sig) := Finset.univ.map ⟨barCell, bar_inj⟩

abbrev tokOf (cd : Dev nD × Fin 3) : GSem nD τ sig × ℕ × Fin 3 := (barCell cd.1, 0, cd.2)
theorem tok_inj : Function.Injective tokOf := fun a b h =>
  Prod.ext (bar_inj (congrArg (fun x : GSem nD τ sig × ℕ × Fin 3 => x.1) h)) (congrArg (fun x : GSem nD τ sig × ℕ × Fin 3 => x.2.2) h)
def barToks : Finset (GSem nD τ sig × ℕ × Fin 3) := Finset.univ.map ⟨tokOf, tok_inj⟩

def u₀ : UA := (initOf (Pipeline.cells cfgs cellOf_inj) (Pipeline.launchToks cfgs cellOf_inj), initOf barCells barToks)

/-- The tokens of the duties at device `c`'s own cell. -/
def ownToks (c : Dev nD) : sProp 𝕄 :=
  iprop(dutyTok EHand (barCell c) 0 0 ∗ dutyTok EHand (barCell c) 0 1 ∗ dutyTok EHand (barCell c) 0 2)

/-- What the launch deals device `c`. -/
def dealt (c : Dev nD) : sProp 𝕄 :=
  iprop(roundState EHand hand (barCell c) 0 ∗ atPos EHand (barCell c) 0 ∅ 0 ∗ reached EHand (barCell c) 0 ∗ ownToks c)

omit [FloatOps F] in
theorem fund_hand : BI.own (EHand (initOf barCells barToks)) ⊢ (|==> bigSep Finset.univ (dealt (F := F)) : sProp 𝕄) := by
  have hX (Φ : GSem nD τ sig → sProp 𝕄) : bigSep barCells Φ = bigSep Finset.univ fun c : Dev nD => Φ (barCell c) := by
    unfold barCells; rw [bigSep_map]; rfl
  have hT : bigSep barToks (fun x => (dutyTok EHand x.1 x.2.1 x.2.2 : sProp 𝕄)) = bigSep Finset.univ fun c : Dev nD => ownToks c := by
    unfold barToks; rw [bigSep_map, bigSep_univ_prod]
    exact bigSep_congr fun c _ => by
      unfold ownToks; rw [bigSep_univ_eq_bigSepL [(0 : Fin 3), 1, 2] (by decide) (by decide)]; rfl
  iintro HX
  imod (Rounds.fund EHand (hand (F := F)) barCells barToks) $$ HX with ⟨Hst, Hr, Hat, Htok⟩
  imodintro
  ihave Hst' := (Entails.of_eq (hX fun g => roundState EHand (hand (F := F)) g 0)) $$ Hst
  ihave Hat' := (Entails.of_eq (hX fun g => atPos EHand g 0 ∅ 0)) $$ Hat
  ihave Hr' := (Entails.of_eq (hX fun g => reached EHand g 0)) $$ Hr
  ihave Htok' := (Entails.of_eq hT) $$ Htok
  unfold dealt; simp only [bigSep_sep']
  isplitl [Hst']; · iexact Hst'
  isplitl [Hat']; · iexact Hat'
  isplitl [Hr']; · iexact Hr'
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- What every device may know: all cells' invariants and that all are at round 0. -/
def records (K : Dev nD → ℕ) : sProp 𝕄 :=
  iprop((bigSep Finset.univ fun c : Dev nD => cellInv EHand hand (K c) (barCell c)) ∗ bigSep Finset.univ fun c : Dev nD => reached EHand (barCell c) 0)

instance records_persistent (K : Dev nD → ℕ) : BI.Persistent (records (F := F) K) := by unfold records; infer_instance

omit [FloatOps F] in
theorem inv_at (K : Dev nD → ℕ) (c : Dev nD) :
    (bigSep Finset.univ fun c : Dev nD => (cellInv EHand hand (K c) (barCell c) : sProp 𝕄)) ⊢ cellInv EHand hand (K c) (barCell c) :=
  bigSep_elim (Finset.mem_univ c)
omit [FloatOps F] in
theorem reached_at (c : Dev nD) :
    (bigSep Finset.univ fun c : Dev nD => (reached EHand (barCell c) 0 : sProp 𝕄)) ⊢ reached EHand (barCell c) 0 :=
  bigSep_elim (Finset.mem_univ c)

omit [FloatOps F] in
theorem ghost_intro (K : Dev nD → ℕ) (c : Dev nD) :
    iprop(records (F := F) K ∗ (atPos EHand (barCell c) 0 ∅ 0 ∗ payToks c)) ⊢ iprop(∃ K, ghost (F := F) K c) := by
  unfold records ghost invs
  iintro ⟨⟨#HI, #HR⟩, Hat, Htok⟩
  iexists K
  isplitr
  · isplitr; · iapply (inv_at K c); iexact HI
    isplitr; · iapply (inv_at K (peer 0 c)); iexact HI
    isplitr; · iapply (inv_at K (peer 1 c)); iexact HI
    iapply (inv_at K (peer 2 c)); iexact HI
  isplitl [Hat]; · iexact Hat
  isplitr
  · isplitr; · iapply (reached_at (F := F) (peer 0 c)); iexact HR
    isplitr; · iapply (reached_at (F := F) (peer 1 c)); iexact HR
    iapply (reached_at (F := F) (peer 2 c)); iexact HR
  iexact Htok

omit [FloatOps F] in
/-- Each duty's token goes to the partner that pays it. -/
theorem toks_swap : (bigSep Finset.univ fun c : Dev nD => (ownToks c : sProp 𝕄)) ⊢ bigSep Finset.univ fun c : Dev nD => payToks c := by
  unfold ownToks payToks
  rw [bigSep_sep', bigSep_sep', bigSep_sep', bigSep_sep',
    bigSep_univ_equiv (swap 0) (fun c : Dev nD => (dutyTok EHand (barCell c) 0 0 : sProp 𝕄)),
    bigSep_univ_equiv (swap 1) (fun c : Dev nD => (dutyTok EHand (barCell c) 0 1 : sProp 𝕄)),
    bigSep_univ_equiv (swap 2) (fun c : Dev nD => (dutyTok EHand (barCell c) 0 2 : sProp 𝕄))]
  exact .rfl

omit [FloatOps F] in
/-- From the barrier counters and what the launch dealt, every device's part of the handshake. -/
theorem deal : (bigSep Finset.univ fun c : Dev nD => iprop(unscopedSems0 c ∗ dealt (F := F) c) : sProp 𝕄)
    ⊢ |={Set.univ}=> bigSep Finset.univ fun c : Dev nD => iprop(∃ K, ghost (F := F) K c) := by
  have halloc : (bigSep Finset.univ fun c : Dev nD => iprop(semVal (barCell c) 0 ∗ roundState EHand (hand (F := F)) (barCell c) 0) : sProp 𝕄)
      ⊢ |={Set.univ}=> bigSep Finset.univ fun c : Dev nD => iprop(∃ κ : ℕ, cellInv EHand (hand (F := F)) κ (barCell c)) :=
    (bigSep_mono fun c _ => (Rounds.body_intro EHand (hand (F := F)) (barCell c)).trans inv_alloc).trans (bigSep_fupd _ _)
  rw [bigSep_congr (s := Finset.univ) (fun (c : Dev nD) _ => by rw [unscopedSems0_eq (F := F) c])]
  unfold dealt
  simp only [bigSep_sep']
  rw [bigSep_sep'] at halloc
  iintro ⟨Hv, Hst, Hat, Hr, Htok⟩
  imod halloc $$ [Hv Hst] with HI
  · isplitl [Hv] <;> iassumption
  ihave HK := (BI.bigSep_exists_pi Finset.univ (fun (c : Dev nD) (κ : ℕ) => (cellInv EHand (hand (F := F)) κ (barCell c) : sProp 𝕄))) $$ HI
  icases HK with ⟨%K, HI⟩
  ihave Htk := (toks_swap (F := F)) $$ Htok
  imodintro
  have hgo : iprop(records (F := F) K ∗ bigSep Finset.univ fun c : Dev nD => iprop(atPos EHand (barCell c) 0 ∅ 0 ∗ payToks (F := F) c))
      ⊢ bigSep Finset.univ fun c : Dev nD => iprop(∃ K, ghost (F := F) K c) :=
    (sep_mono_left (BI.bigSep_of_persistent Finset.univ (records (F := F) K))).trans
      (by rw [← bigSep_sep']; exact bigSep_mono fun c _ => ghost_intro K c)
  iapply hgo
  rw [bigSep_sep']
  unfold records
  isplitl [HI Hr]
  · isplitl [HI] <;> iassumption
  isplitl [Hat] <;> iassumption

/-! ### The launch credit -/

omit [FloatOps F] in
theorem peer_iff (d : Fin 3) (a b : Dev nD) : Iff (barCell b = barCell (peer d a) ∧ () = ()) (a = peer d b) := by
  constructor
  · rintro ⟨h, -⟩; rw [bar_inj h, peer_peer]
  · rintro rfl; rw [peer_peer]; exact ⟨rfl, rfl⟩

/-- What device `a` owes device `b`'s cell: one unit for every pattern that pairs them. -/
theorem owed_bar (a b : Dev nD) :
    owe₀ a (barCell b) () = (if a = peer 2 b then 1 else 0) + (if a = peer 1 b then 1 else 0) + (if a = peer 0 b then 1 else 0) := by
  unfold owe₀ owe₁ owe₂
  rw [Pi.add_apply, Finsupp.add_apply, Pi.add_apply, Finsupp.add_apply, tallyAt_apply, tallyAt_apply, tallyAt_apply,
    if_congr (peer_iff 2 a b) rfl rfl, if_congr (peer_iff 1 a b) rfl rfl, if_congr (peer_iff 0 a b) rfl rfl]

theorem launch_bar (c : Dev nD) :
    tallyOn (barCell c) (launchCredit (Pipeline.owing owe₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1, Finset.sum_ite_eq' Finset.univ (peer 0 c) fun _ => 1,
    if_pos (Finset.mem_univ _), if_pos (Finset.mem_univ _), if_pos (Finset.mem_univ _)]

omit [FloatOps F] in
theorem credit (c : Dev nD) : (Pipeline.launchCred owe₀ c : sProp 𝕄) ⊢ cred (tallyAt (barCell c) () 3) := by
  unfold Pipeline.launchCred
  rw [bigSep_univ_at _ (SemLoc.reg barS), launch_bar]
  iintro ⟨H, -⟩; iexact H

/-! ## The region -/

theorem share_eq (c : Dev nD) (w : Fin cfg0.W) : (dats m 0 c).share w = fullShare := by unfold Dat.share; split <;> rfl

theorem waits (c : Dev nD) : (levAts L lv : sProp 𝕄) ⊢ Pipeline.cellsWaits cfgs (dats m) () 0 c :=
  Pipeline.cellsWaits_intro cfgs (dats m) () 0 c fun w s t =>
    mayWait_stage c _ _ (by
      rcases t with ⟨_ | _, ht⟩
      · exact Or.inl rfl
      · exact Or.inr rfl)

abbrev adm : (p : Fin 1) → (pcfgs (F := F) p).Adm := fun p => (cfgs p).toPCfg_adm

/-- What rides beside the buffers up to the region. -/
def riding (c : Dev nD) : sProp 𝕄 := iprop(owes (c : Thread nD τ) (owe₀ c) ∅ ∗ entry (F := F) c)

/-- The windows' arrays after the region. -/
def arrays (c : Dev nD) : sProp 𝕄 :=
  bigSep Finset.univ fun w : Fin cfg0.W => (((c : Thread nD τ).loc (Pipeline.arrRef spec0 w)) ↦{fullShare} (dats m 0 c).arrAt w cfg0.N : sProp 𝕄)

def left (c : Dev nD) : sProp 𝕄 :=
  iprop(arrays m c ∗ Pipeline.unscopedRest (Ix := Unit) (Name := ℕ) (U := UA) (Lvl := ℕ) spec0 c (V m c) ∗ unscopedSems0 c)

omit [FloatOps F] in
theorem prefHeld_none (c : Dev nD) (q) (pf) :
    (Pipeline.prefHeld (Ix := Unit) (Name := ℕ) (U := UA) (Lvl := ℕ) (Val := Elt F) (pcfgs (F := F) 0).pre c q pf : sProp 𝕄) = BI.emp :=
  bigSep_univ_eq_bigSepL ([] : List (Fin 0)) (by decide) (by decide) _

/-- The kernel's region: the arrays and the handshake's state in, the arrays and the closed barrier cell out. -/
def reg : Pipeline.RegionSeg (pcfgs (F := F)) adm (dats m) () defs₀ 𝒱₀ L lv 0 where
  win := winFacts0.to₀
  block_pos := block_pos0
  stage_whole := stage_whole0
  K := Fin 24
  osem := osem
  ho := ownSemFacts
  hbody c := (body_obligation m c).loose
  hwaits := waits m
  pre c := iprop(unscopedBufs c (V m c) ∗ riding c)
  post c := iprop(left m c ∗ ∃ W, owes (c : Thread nD τ) (0 : CellTallies nD τ sig Unit) W)
  X c := iprop(entry c ∗ Pipeline.ownSems0 (Ix := Unit) (Name := ℕ) (U := UA) (Lvl := ℕ) (Val := Elt F) (τ := τ) osem c)
  Y c := unscopedSems0 c
  Z c := Pipeline.unscopedRest (Ix := Unit) (Name := ℕ) (U := UA) (Lvl := ℕ) spec0 c (V m c)
  hentry c := by
    rw [prefHeld_none, Pipeline.unscopedBufs_split cfgs 0 (by decide) winFacts0.arr_inj c (V m c),
      Pipeline.arrays_eq cfgs (dats m) 0 c arr_whole0 (share_eq m c)]
    unfold riding
    iintro ⟨⟨⟨Ha, Hz⟩, HO, He⟩, Hown, -⟩
    imodintro
    isplitl [Ha]; · iexact Ha
    isplitr; · iempintro
    isplitl [HO]
    · unfold Dat.owesAt Pipeline.owesWithin
      iexists ∅
      isplitr; · ipureintro; exact fun _ _ => Or.inl trivial
      iexact HO
    isplitl [He Hown]
    · isplitl [He] <;> iassumption
    iexact Hz
  hin c := by
    rw [show (dats m 0 c).Φ 0 = before c from rfl]
    unfold before scratch
    iintro ⟨⟨He, Hown⟩, -, Hs⟩
    isplitl [He]; · iexact He
    isplitl [Hown] <;> iassumption
  hout c := by
    rw [show (dats m 0 c).Φ (Fin.last _) = after c from rfl, unscopedSems0_eq]
    unfold after scratch
    exact .rfl
  hexit c := by
    unfold left arrays
    rw [Pipeline.arrays_eq cfgs (dats m) 0 c arr_whole0 (share_eq m c)]
    iintro ⟨Ha, HO, Hy, Hz⟩
    imodintro
    isplitl [Ha Hy Hz]
    · isplitl [Ha]; · iexact Ha
      isplitl [Hz] <;> iassumption
    unfold Dat.owesAt Pipeline.owesWithin
    icases HO with ⟨%W, -, HO⟩
    iexists W; iexact HO

def segs : List (Pipeline.Seg (pcfgs (F := F)) adm (dats m) () defs₀ 𝒱₀ L lv) := [.region (reg m)]

/-! ## The run -/

def begun (c : Dev nD) : sProp 𝕄 := iprop(unscopedBufs c (fun b => m ((c : Thread nD τ).loc b)) ∗ riding c)

theorem start :
    iprop((bigSep Finset.univ fun c : Dev nD => iprop(unscopedBufs c (fun b => m ((c : Thread nD τ).loc b)) ∗ unscopedSems0 c
          ∗ owes (c : Thread nD τ) (owe₀ c) ∅ ∗ Pipeline.launchCred owe₀ c ∗ prngReg c (ρ c) ∗ dealt c)) ∗ levAts L lv)
      ⊢ (|={Set.univ}=> bigSep Finset.univ (begun m) : sProp 𝕄) := by
  have hone (c : Dev nD) : iprop(unscopedBufs c (fun b => m ((c : Thread nD τ).loc b)) ∗ unscopedSems0 c
        ∗ owes (c : Thread nD τ) (owe₀ c) ∅ ∗ Pipeline.launchCred owe₀ c ∗ prngReg c (ρ c) ∗ dealt c)
      ⊢ (iprop((unscopedBufs c (fun b => m ((c : Thread nD τ).loc b)) ∗ owes (c : Thread nD τ) (owe₀ c) ∅ ∗ cred (tallyAt (barCell c) () 3))
          ∗ (unscopedSems0 c ∗ dealt c)) : sProp 𝕄) := by
    iintro ⟨Hb, Hs, HO, Hc, -, Hd⟩
    ihave Hc' := (credit (F := F) c) $$ Hc
    isplitl [Hb HO Hc']
    · isplitl [Hb]; · iexact Hb
      isplitl [HO] <;> iassumption
    isplitl [Hs] <;> iassumption
  iintro ⟨H, -⟩
  ihave H' := (show (bigSep Finset.univ fun c : Dev nD => iprop(unscopedBufs c (fun b => m ((c : Thread nD τ).loc b)) ∗ unscopedSems0 c
          ∗ owes (c : Thread nD τ) (owe₀ c) ∅ ∗ Pipeline.launchCred owe₀ c ∗ prngReg c (ρ c) ∗ dealt c))
      ⊢ (iprop((bigSep Finset.univ fun c : Dev nD => iprop(unscopedBufs c (fun b => m ((c : Thread nD τ).loc b)) ∗ owes (c : Thread nD τ) (owe₀ c) ∅ ∗ cred (tallyAt (barCell c) () 3)))
          ∗ bigSep Finset.univ fun c : Dev nD => iprop(unscopedSems0 c ∗ dealt c)) : sProp 𝕄) from by
        rw [← bigSep_sep']; exact bigSep_mono fun c _ => hone c) $$ H
  icases H' with ⟨HB, HD⟩
  imod (deal (F := F)) $$ HD with HG
  imodintro
  have hend : iprop((bigSep Finset.univ fun c : Dev nD => iprop(unscopedBufs c (fun b => m ((c : Thread nD τ).loc b)) ∗ owes (c : Thread nD τ) (owe₀ c) ∅ ∗ cred (tallyAt (barCell c) () 3)))
          ∗ bigSep Finset.univ fun c : Dev nD => iprop(∃ K, ghost (F := F) K c)) ⊢ (bigSep Finset.univ (begun m) : sProp 𝕄) := by
    rw [← bigSep_sep']
    refine bigSep_mono fun c _ => ?_
    show iprop((unscopedBufs c (fun b => m ((c : Thread nD τ).loc b)) ∗ owes (c : Thread nD τ) (owe₀ c) ∅ ∗ cred (tallyAt (barCell c) () 3))
      ∗ ∃ K, ghost (F := F) K c) ⊢ (begun m c : sProp 𝕄)
    unfold begun riding entry
    iintro ⟨⟨Hb, HO, Hc⟩, HG⟩
    isplitl [Hb]; · iexact Hb
    isplitl [HO]; · iexact HO
    isplitl [HG] <;> iassumption
  iapply hend
  isplitl [HB] <;> iassumption

/-- The result array's contents at the end: the kernel's block written over it. -/
def outArr (c : Dev nD) : Buf (Elt F) ((c : Thread nD τ).loc (Pipeline.arrRef spec0 4)) := (dats m 0 c).arrAt 4 cfg0.N

set_option backward.isDefEq.respectTransparency.types false in
set_option maxRecDepth 8000 in
/-- Every weakly fair execution terminates; every final state has the windows' arrays as the region leaves them, the other
    arguments as launched and every semaphore at zero. -/
theorem run : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
        ∧ r.2.mem ((c : Thread nD τ).loc (Pipeline.arrRef spec0 4)) = outArr m c) ∧ r.2.sem = fun _ => 0) :=
  Pipeline.θ_run_regions_kit_sems (pcfgs (F := F)) adm (dats m) () cellOf_inj EPipe defs₀ 𝒱₀ L lv m ρ main (segs m)
    (fun c Q => by rw [main_segs adm (dats m) () 𝒱₀ L lv (reg m) c]; exact .rfl)
    (by simp only [segs, Pipeline.Seg.pipes_host, Pipeline.Seg.pipes_region, Pipeline.Seg.pipes_nil]; decide)
    (O₀ := owe₀) (hL := L_of_ne) (G := dealt) (u₀ := u₀)
    (hu₀ := by
      unfold u₀
      iintro Hu
      ihave H := (ownU_pair _ _) $$ Hu
      icases H with ⟨HP, HX⟩
      imod (fund_hand (F := F)) $$ HX with HG
      imodintro
      isplitl [HP] <;> iassumption)
    (T₀ := begun m) (Tₙ := left m)
    (hch := ⟨fun c => .rfl, fun c => .rfl⟩)
    (hinit := start m ρ)
    (QY := fun c s => ((s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_arg3) = m ((c : Thread nD τ).loc main_arg3))
        ∧ s.mem ((c : Thread nD τ).loc (Pipeline.arrRef spec0 4)) = outArr m c)
      ∧ ∀ sm : SemLoc sig, sm.isScoped .tc = false → s.sem ((c.tc : Thread nD τ), sm) = 0)
    (hfin := fun c s' => by
      unfold left arrays
      rw [bigSep_W0, unscopedRest0_eq]
      iintro ⟨⟨⟨H0, H1, H2, H3, H4⟩, -, Hs⟩, HSI⟩
      icombine HSI H0 gives %h0
      icombine HSI H1 gives %h1
      icombine HSI H2 gives %h2
      icombine HSI H3 gives %h3
      icombine HSI H4 gives %h4
      imod (Pipeline.unscopedSems0_read (X := unscopedSems0 c) (c := c) fupd_intro s') $$ [Hs HSI] with ⟨%hs, HSI⟩
      · isplitl [Hs] <;> iassumption
      imodintro
      isplitr
      · ipureintro
        exact ⟨⟨⟨(Buf.eq_of_forall_mem_univ h0).trans ((dats m 0 c).arrAt_in 0 rfl _),
          (Buf.eq_of_forall_mem_univ h1).trans ((dats m 0 c).arrAt_in 1 rfl _),
          (Buf.eq_of_forall_mem_univ h2).trans ((dats m 0 c).arrAt_in 2 rfl _),
          (Buf.eq_of_forall_mem_univ h3).trans ((dats m 0 c).arrAt_in 3 rfl _)⟩, Buf.eq_of_forall_mem_univ h4⟩, hs⟩
      iexact HSI)
    (hQ := fun s h hs => ⟨fun c => (h c).1, sem_eq_zero hs fun c => (h c).2⟩)

/-- The frame: the arguments as launched, every semaphore at zero. -/
theorem frame : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run defs _ _).mono (fun _ h => ⟨fun c => (h.1 c).1, h.2⟩) (run m ρ)

end Cert.KernelIdealRun

end
-- ==== Proof.KernelCxIdealHand.lean ====
/-
# `KernelCxIdeal`: the run — the entry handshake of every device, then its local mixture

Every device raises the barrier semaphore of the three devices whose numbers differ from its own in one of the patterns
1, 3 and 4 (exclusive or), waits until its own has been raised three times, and then computes from its own blocks alone:
no transfer is started, and the semaphores of the transfers are left as found.

One barrier cell per device carries one round of three duties, one per pattern, of one unit each and no payload.
A pattern is its own inverse, so the token of a cell's duty `d` belongs to the device found from the cell's owner by
pattern `d`. Nothing is owed any more when a device waits, so the wait needs no order between cells.
-/
module

public import proofs.«01_k».proof.Proof.Gen.KernelCxIdeal
public import proofs.«01_k».proof.Proof.Gen.KernelCxIdeal.Skeleton
public import proofs.«01_k».proof.Proof.Gen.KernelCxIdeal.Launch
public import proofs.«01_k».proof.Proof.Gen.KernelCxIdeal.Points
public import proofs.«01_k».proof.Proof.Gen.KernelCxIdeal.Frame
public import Idealize.ShloMosaic.Lib.Pipeline.Launch
public import Idealize.ShloMosaic.Lib.Pipeline.Kit
public import Idealize.ShloMosaic.Lib.Pipeline.Regions
public import Idealize.ShloMosaic.Lib.Pipeline.CollectiveSegs
public import Idealize.ShloMosaic.Lib.Tactic

@[expose] public section

noncomputable section

namespace Cert.KernelCxIdealRun

open Cert.KernelCxIdeal Cert.KernelCxIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-! ## Resources -/

/-- The handshake's rounds beside the pipeline's own. -/
abbrev UH : Type := URounds (GSem nD τ sig) (Fin 3)
abbrev UA : Type := UR sig nD τ × UH

local notation "𝕄" => MT nD τ sig Unit (Elt F) ℕ UA ℕ

abbrev EPipe : Emb (UR sig nD τ) (MT nD τ sig Unit (Elt F) ℕ UA ℕ) := embL
abbrev EHand : Emb UH (MT nD τ sig Unit (Elt F) ℕ UA ℕ) := embR

variable (m : (ℓ : Loc nD τ sig) → Buf (Elt F) ℓ) (ρ : Dev nD → PrngReg)

/-! ## The three partners of a device -/

set_option backward.proofsInPublic true in
/-- Device `c`'s partner under pattern `d`: its number with the bits of 1, 3 or 4 flipped. -/
def peer (d : Fin 3) (c : Dev nD) : Dev nD :=
  ⟨(c.val ^^^ (![1, 3, 4] : Fin 3 → ℕ) d) % 8, Nat.mod_lt _ (by decide)⟩

theorem peer_peer (d : Fin 3) (c : Dev nD) : peer d (peer d c) = c := by revert d c; decide

/-- A pattern, as a permutation of the devices. -/
def swap (d : Fin 3) : Dev nD ≃ Dev nD := ⟨peer d, peer d, peer_peer d, peer_peer d⟩

/-- The three device numbers the kernel computes are the partners. -/
theorem dev1_eq (c : Dev nD) : (⟨k0_dev1 c, k0_dev1_lt c⟩ : Dev nD) = peer 0 c := Fin.ext (by revert c; decide)
theorem dev2_eq (c : Dev nD) : (⟨k0_dev2 c, k0_dev2_lt c⟩ : Dev nD) = peer 1 c := Fin.ext (by revert c; decide)
theorem dev3_eq (c : Dev nD) : (⟨k0_dev3 c, k0_dev3_lt c⟩ : Dev nD) = peer 2 c := Fin.ext (by revert c; decide)

/-! ## Buffers, semaphores -/

abbrev xM : Memref sig .tc .vmem S1024x256 .f32 := Memref.whole cc0_stg0_0
abbrev rM : Memref sig .tc .vmem S256x32 .f32 := Memref.whole cc0_stg1_0
abbrev eM : Memref sig .tc .vmem S1024x2 .i32 := Memref.whole cc0_stg2_0
abbrev wM : Memref sig .tc .vmem S4x256x512 .f32 := Memref.whole cc0_stg3_0
abbrev oM : Memref sig .tc .vmem S1024x512 .f32 := Memref.whole cc0_stg4_0
abbrev accM : Memref sig .tc .vmem S1024x512 .bf16 := Memref.whole cc0_scratch0
abbrev bM : Memref sig .tc .vmem S4x256x512 .bf16 := Memref.whole cc0_scratch2

/-- The barrier semaphore of the handshake, and device `c`'s cell of it. -/
abbrev barS : Sem sig := (SemArray.scalar (sig.barrier 0 rfl) : Sems sig S_).sem
abbrev barCell (c : Dev nD) : GSem nD τ sig := ((c : Thread nD τ), .reg barS)

set_option backward.proofsInPublic true in
/-- The kernel's own semaphores: the 24 it would count transfers with, none used. -/
abbrev osem : Fin 24 → SemLoc sig := fun k => .dma (⟨5 + k.val, by have := k.isLt; show 5 + k.val < 29; omega⟩ : DmaSem sig)

theorem ownSemFacts : Pipeline.OwnSemFacts cfg0.spec osem := by decide

/-! ## What a device computes -/

abbrev slot0 : Rect S4x256x512 := Rect.unit (s := S4x256x512) ![0, 0, 0] S1x256x512.size inb_S4x256x512_S1x256x512_0_0_0
abbrev slot1 : Rect S4x256x512 := Rect.unit (s := S4x256x512) ![1, 0, 0] S1x256x512.size inb_S4x256x512_S1x256x512_1_0_0
abbrev slot2 : Rect S4x256x512 := Rect.unit (s := S4x256x512) ![2, 0, 0] S1x256x512.size inb_S4x256x512_S1x256x512_2_0_0
abbrev slot3 : Rect S4x256x512 := Rect.unit (s := S4x256x512) ![3, 0, 0] S1x256x512.size inb_S4x256x512_S1x256x512_3_0_0
abbrev colA : Rect S1024x2 := Rect.unit (s := S1024x2) ![0, 0] S1024x1.size inb_S1024x2_S1024x1_0_0
abbrev colB : Rect S1024x2 := Rect.unit (s := S1024x2) ![0, 1] S1024x1.size inb_S1024x2_S1024x1_0_1
abbrev accR : Rect S1024x512 := Rect.unit (s := S1024x512) ![0, 0] S1024x512.size inb_S1024x512_S1024x512_0_0

/-- The two columns of the chosen experts. -/
abbrev topA (e : (cc0_stg2_0 : Ref sig .tc).ty.Contents (Elt F)) : Vec F S1024x1 .i32 := eM.view.readAt (Elt F) colA.toLoadRect e
abbrev topB (e : (cc0_stg2_0 : Ref sig .tc).ty.Contents (Elt F)) : Vec F S1024x1 .i32 := eM.view.readAt (Elt F) colB.toLoadRect e

/-- Device `d`'s result from its four blocks: its activations `x`, the router's matrix `r`, the experts chosen per token
    `e`, its four experts' matrices `w`. -/
def mix (d : Dev nD) (x : Vec F S1024x256 .f32) (r : Vec F S256x32 .f32) (e : (cc0_stg2_0 : Ref sig .tc).ty.Contents (Elt F))
    (w : (cc0_stg3_0 : Ref sig .tc).ty.Contents (Elt F)) : Vec F S1024x512 .f32 :=
  have v2 : BitVec 32 := Scalar.remsi (Scalar.divsi (Dev.word d) 1#32) 8#32
  have v14 := k0_pay3 x
  have v26 := k0_pay4 x r
  have v27 : IVec S1024x32 32 := iota .tc S1024x32 32 [1] iota_S1024x32_d1_w32
  have v29 := k0_pay5 (F := F) (topA e)
  have v31 := k0_pay6 (F := F) (topB e)
  have v44 := k0_pay7 v26 v27 v29 (topB e)
  have v60 := k0_pay8 v2 v26 v27 v29 (topB e)
  have v67 := k0_pay9 v2 v29 (topB e)
  have v74 := k0_pay10 v2 v26 v27 v29 (topB e)
  have v76 := k0_pay11 v67 v74
  have v92 := k0_pay12 v2 v26 v27 v29 v31 v44
  have v108 := k0_pay13 v2 v26 v27 v29 v31 v44
  have v137 := k0_pay14 (wM.view.readAt (Elt F) slot0.toLoadRect w)
  have v143 := k0_pay15 (wM.view.readAt (Elt F) slot1.toLoadRect w)
  have v150 := k0_pay16 (wM.view.readAt (Elt F) slot2.toLoadRect w)
  have v157 := k0_pay17 (wM.view.readAt (Elt F) slot3.toLoadRect w)
  k0_pay1 v108 (k0_pay18 v14) (k0_pay19 v14 v60 v76 v137 v143) (k0_pay20 v92) v150 v157

/-- The four blocks as the pipeline stages them, read off the arrays the region finds. -/
def xIn (c : Dev nD) : (cc0_stg0_0 : Ref sig .tc).ty.Contents (Elt F) := (win0_0.blk (0 : Fin 1)).view.read (Elt F) (V m c (Pipeline.arrRef spec0 0))
def rIn (c : Dev nD) : (cc0_stg1_0 : Ref sig .tc).ty.Contents (Elt F) := (win0_1.blk (0 : Fin 1)).view.read (Elt F) (V m c (Pipeline.arrRef spec0 1))
def eIn (c : Dev nD) : (cc0_stg2_0 : Ref sig .tc).ty.Contents (Elt F) := (win0_2.blk (0 : Fin 1)).view.read (Elt F) (V m c (Pipeline.arrRef spec0 2))
def wIn (c : Dev nD) : (cc0_stg3_0 : Ref sig .tc).ty.Contents (Elt F) := (win0_3.blk (0 : Fin 1)).view.read (Elt F) (V m c (Pipeline.arrRef spec0 3))
def outAt (c : Dev nD) : (cc0_stg4_0 : Ref sig .tc).ty.Contents (Elt F) := mix c (xIn m c) (rIn m c) (eIn m c) (wIn m c)

/-! ### Reads of the narrowed experts' buffer after its four writes -/

/-- The buffer `f` with the slot at `s` overwritten by `a`. -/
abbrev put (s : Rect S4x256x512) (f : (cc0_scratch2 : Ref sig .tc).ty.Contents (Elt F)) (a : Vec F s.shape .bf16) :
    (cc0_scratch2 : Ref sig .tc).ty.Contents (Elt F) :=
  (bM.access s : View sig .tc _ _ _).write (Elt F) f a Finset.univ

omit [FloatOps F] in
theorem get_put (s : Rect S4x256x512) (f : (cc0_scratch2 : Ref sig .tc).ty.Contents (Elt F)) (a : Vec F s.shape .bf16) :
    bM.view.readAt (Elt F) s.toLoadRect (put s f a) = a := View.read_write_univ _ _

omit [FloatOps F] in
theorem get_put_ne (s s' : Rect S4x256x512) (h : LoadRect.disj s s'.toLoadRect = true)
    (f : (cc0_scratch2 : Ref sig .tc).ty.Contents (Elt F)) (a : Vec F s'.shape .bf16) :
    bM.view.readAt (Elt F) s.toLoadRect (put s' f a) = bM.view.readAt (Elt F) s.toLoadRect f :=
  View.read_slice_write_slice_of_disjoint (v := bM.view) (Val := Elt F) s s' f a Finset.univ (View.disjoint_slice_of_disj bM.view s s' h)

section Slots
variable (f : (cc0_scratch2 : Ref sig .tc).ty.Contents (Elt F)) (w0 w1 w2 w3 : Vec F S1x256x512 .bf16)

omit [FloatOps F] in
theorem get0 : bM.view.readAt (Elt F) slot0.toLoadRect (put slot3 (put slot2 (put slot1 (put slot0 f w0) w1) w2) w3) = w0 := by
  rw [get_put_ne slot0 slot3 (by decide), get_put_ne slot0 slot2 (by decide), get_put_ne slot0 slot1 (by decide), get_put]
omit [FloatOps F] in
theorem get1 : bM.view.readAt (Elt F) slot1.toLoadRect (put slot3 (put slot2 (put slot1 f w1) w2) w3) = w1 := by
  rw [get_put_ne slot1 slot3 (by decide), get_put_ne slot1 slot2 (by decide), get_put]
omit [FloatOps F] in
theorem get2 : bM.view.readAt (Elt F) slot2.toLoadRect (put slot3 (put slot2 f w2) w3) = w2 := by
  rw [get_put_ne slot2 slot3 (by decide), get_put]
end Slots

/-! ## The handshake's schedule -/

abbrev IsBar (g : GSem nD τ sig) : Prop := g.1.2 = .tc ∧ g.2 = .reg barS

/-- One round: three duties at a barrier cell, of one unit each, handing over nothing. -/
def hand : Rounds.Schedule (GSem nD τ sig) (Fin 3) 𝕄 where
  duties g r := if r = 0 ∧ IsBar g then Finset.univ else ∅
  unitless _ := False
  amount _ _ _ := 1
  payload _ _ _ := iprop(emp)
  amount_pos _ _ _ _ := Nat.one_pos

instance hand_storable (g : GSem nD τ sig) (r : ℕ) (d : Fin 3) : BI.Storable (upEmb : UEmb _ 𝕄) ((hand (F := F)).payload g r d) := by
  show BI.Storable upEmb (iprop(emp) : sProp 𝕄); infer_instance

omit [FloatOps F] in
theorem duties_bar (c : Dev nD) : (hand (F := F)).duties (barCell c) 0 = Finset.univ := by
  dsimp only [hand]; exact if_pos ⟨rfl, rfl, rfl⟩
omit [FloatOps F] in
theorem duties_later (g : GSem nD τ sig) : ∀ r, 1 ≤ r → (hand (F := F)).duties g r = ∅ :=
  fun r hr => by dsimp only [hand]; exact if_neg fun h => by omega
omit [FloatOps F] in
theorem expect_bar (c : Dev nD) : (hand (F := F)).expect (barCell c) 0 = 3 := by
  unfold Schedule.expect Schedule.amountOf
  rw [duties_bar]; dsimp only [hand]
  rw [Finset.sum_const, Finset.card_univ, Fintype.card_fin, smul_eq_mul]

/-! ## What a device owes; the levels -/

/-- Device `c` owes each partner's barrier cell a unit; the signals peel the summands from the right. -/
def owe₂ (c : Dev nD) : CellTallies nD τ sig Unit := tallyAt (barCell (peer 2 c)) () 1
def owe₁ (c : Dev nD) : CellTallies nD τ sig Unit := owe₂ c + tallyAt (barCell (peer 1 c)) () 1
def owe₀ (c : Dev nD) : CellTallies nD τ sig Unit := owe₁ c + tallyAt (barCell (peer 0 c)) () 1

def L (g : GSem nD τ sig) : Finset Unit := if g.1.2 = .tc then {()} else ∅
/-- Barrier cells above the staging cells. -/
def lv (g : GSem nD τ sig) (_ : Unit) : ℕ := if g.2 = .reg barS then 1 else 0

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {g : GSem nD τ sig} {u : Unit} (h : 0 < owe₀ c g u) : ∃ d, g = barCell (peer d c) := by
  unfold owe₀ owe₁ owe₂ at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

omit [FloatOps F] in
theorem mayWait_stage (c : Dev nD) (q : DmaSem sig) (O : CellTallies nD τ sig Unit) (hO : O = owe₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, rfl⟩ := owe_pos hg; exact Finset.mem_singleton_self _)
      (fun p hp => by rw [Finset.mem_singleton.mp hp]; dsimp only [lv]; rw [if_neg (fun h => by cases h)])
      (fun g u hg => by obtain ⟨d, rfl⟩ := owe_pos hg; dsimp only [lv]; rw [if_pos rfl]; decide)
  · rw [MayWait_zero]; iintro -; iempintro

/-! ## The pipeline's proof data -/

/-- The invariants device `c`'s body opens: its own cell's and its three partners'. -/
def invs (K : Dev nD → ℕ) (c : Dev nD) : sProp 𝕄 :=
  iprop(cellInv EHand hand (K c) (barCell c) ∗ cellInv EHand hand (K (peer 0 c)) (barCell (peer 0 c))
    ∗ cellInv EHand hand (K (peer 1 c)) (barCell (peer 1 c)) ∗ cellInv EHand hand (K (peer 2 c)) (barCell (peer 2 c)))

instance invs_persistent (K : Dev nD → ℕ) (c : Dev nD) : BI.Persistent (invs (F := F) K c) := by unfold invs; infer_instance

/-- The tokens of the duties device `c` pays. -/
def payToks (c : Dev nD) : sProp 𝕄 :=
  iprop(dutyTok EHand (barCell (peer 0 c)) 0 0 ∗ dutyTok EHand (barCell (peer 1 c)) 0 1 ∗ dutyTok EHand (barCell (peer 2 c)) 0 2)

/-- The handshake's ghost state device `c` starts from. -/
def ghost (K : Dev nD → ℕ) (c : Dev nD) : sProp 𝕄 :=
  iprop(invs K c ∗ atPos EHand (barCell c) 0 ∅ 0
    ∗ (reached EHand (barCell (peer 0 c)) 0 ∗ reached EHand (barCell (peer 1 c)) 0 ∗ reached EHand (barCell (peer 2 c)) 0)
    ∗ payToks c)

/-- That at some names, with the three units of credit at its own cell. -/
def entry (c : Dev nD) : sProp 𝕄 := iprop((∃ K, ghost K c) ∗ cred (tallyAt (barCell c) () 3))

/-- The kernel's own semaphores at zero and its scoped buffers at some contents: what the body carries through. -/
def scratch (c : Dev nD) : sProp 𝕄 :=
  iprop(Pipeline.ownSems0 (Ix := Unit) (Name := ℕ) (U := UA) (Lvl := ℕ) (Val := Elt F) (τ := τ) osem c
    ∗ Pipeline.scopedRest (Ix := Unit) (Name := ℕ) (U := UA) (Lvl := ℕ) (Val := Elt F) spec0 c)

def before (c : Dev nD) : sProp 𝕄 := iprop(entry c ∗ scratch c)
def after (c : Dev nD) : sProp 𝕄 := iprop(semVal (barCell c) 0 ∗ scratch c)

def dats (_ : Fin 1) (c : Dev nD) : Dat τ (Elt F) Unit ℕ UA ℕ cfg0 c where
  A w := V m c (Pipeline.arrRef spec0 w)
  after w _ := match w with
    | ⟨0, _⟩ => xIn m c
    | ⟨1, _⟩ => rIn m c
    | ⟨2, _⟩ => eIn m c
    | ⟨3, _⟩ => wIn m c
    | ⟨4, _⟩ => outAt m c
  Φ t := match t with
    | ⟨0, _⟩ => before c
    | ⟨_ + 1, _⟩ => after c
  q _ := fullShare
  owed t := match t with
    | ⟨0, _⟩ => owe₀ c
    | ⟨_ + 1, _⟩ => 0

abbrev 𝒱₀ : Variants := Variants.none

omit [FloatOps F] in
theorem owns_whole_eq (c : Dev nD) (b : Ref sig .tc) (X : b.ty.Contents (Elt F)) :
    (owns (Ix := Unit) (Name := ℕ) (U := UA) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelCxIdealRun

end
-- ==== Proof.KernelCxIdealBody.lean ====
/-
# `KernelCxIdeal`: the kernel's body, from the handshake's ghost state to the mixture
-/
module

public import proofs.«01_k».proof.Proof.KernelCxIdealHand

@[expose] public section

noncomputable section

namespace Cert.KernelCxIdealRun

open Cert.KernelCxIdeal Cert.KernelCxIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UA ℕ

variable (m : (ℓ : Loc nD τ sig) → Buf (Elt F) ℓ) (ρ : Dev nD → PrngReg)

/-! ## The body -/

omit [FloatOps F] in
theorem zero2 : (![0, 0] : Fin 2 → Nat) = fun _ => 0 := funext fun a => by fin_cases a <;> rfl

abbrev xR : Rect S1024x256 := Rect.unit (s := S1024x256) ![0, 0] S1024x256.size inb_S1024x256_S1024x256_0_0
abbrev rR : Rect S256x32 := Rect.unit (s := S256x32) ![0, 0] S256x32.size inb_S256x32_S256x32_0_0

omit [FloatOps F] in
theorem read_x (f : (cc0_stg0_0 : Ref sig .tc).ty.Contents (Elt F)) : xM.view.readAt (Elt F) xR.toLoadRect f = f :=
  Memref.readAt_unit_zero (Elt F) cc0_stg0_0 zero2 _ f
omit [FloatOps F] in
theorem read_r (f : (cc0_stg1_0 : Ref sig .tc).ty.Contents (Elt F)) : rM.view.readAt (Elt F) rR.toLoadRect f = f :=
  Memref.readAt_unit_zero (Elt F) cc0_stg1_0 zero2 _ f
omit [FloatOps F] in
theorem write_out (f w : (cc0_stg4_0 : Ref sig .tc).ty.Contents (Elt F)) :
    ((oM : Memref sig .tc .vmem S1024x512 .f32).access accR : View sig .tc _ _ _).write (Elt F) f w Finset.univ = w :=
  Memref.write_access_unit_zero_univ (Elt F) cc0_stg4_0 zero2 _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_of (c : Dev nD) (b : Ref sig .tc) (f : Buf (Elt F) (((c : Dev nD) : Thread nD τ).loc b)) (X : b.ty.Contents (Elt F)) (h : f = X) :
    (((c : Thread nD τ).loc b) ↦{fullShare} f : sProp 𝕄) ⊢ stg c b X := by
  iintro H; iexists f; isplitr; · (ipureintro; exact h)
  iexact H

def bodyPre (c : Dev nD) : sProp 𝕄 :=
  iprop(before c ∗ (dats m 0 c).owesAt () (t0_0).castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(after c ∗ (dats m 0 c).owesAt () (t0_0).succ
    ∗ stg c cc0_stg0_0 (xIn m c) ∗ stg c cc0_stg1_0 (rIn m c) ∗ stg c cc0_stg2_0 (eIn m c) ∗ stg c cc0_stg3_0 (wIn m c)
    ∗ stg c cc0_stg4_0 (outAt m c))

set_option maxHeartbeats 4000000 in
set_option maxRecDepth 16384 in
/-- The body, one rule per effect in program order. -/
theorem sound_body (c : Dev nD) (Kt : PUnit → sProp 𝕄) :
    iprop(bodyPre m c ∗ (bodyPost m c -∗ Kt ⟨⟩))
      ⊢ wp frame (wpE (defs₀ (F := F)) 𝒱₀ c none) Set.univ (bodyAt0 (F := F) t0_0) Kt := by
  show _ ⊢ wp frame (wpE (defs₀ (F := F)) 𝒱₀ c none) Set.univ
    (cc0_body xM (Memref.isWhole_whole _) rM (Memref.isWhole_whole _) eM (Memref.isWhole_whole _) wM (Memref.isWhole_whole _)
      oM (Memref.isWhole_whole _) accM (Memref.isWhole_whole _) (Memref.whole cc0_scratch1) (Memref.isWhole_whole _) bM (Memref.isWhole_whole _)
      cc0_scratch3 cc0_scratch4 cc0_scratch5 cc0_scratch6) Kt
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre before entry scratch ghost invs payToks
  rw [scopedRest0_eq]
  iintro ⟨⟨⟨⟨⟨%K, ⟨#HI, #HI0, #HI1, #HI2⟩, Hat, ⟨#Hr0, #Hr1, #Hr2⟩, Ht0, Ht1, Ht2⟩, Hcred⟩, Hown, ⟨%fa, Hacc⟩, Hrb, ⟨%fw, Hwb⟩⟩,
    Ho, ⟨%d0, %g0, %hg0, Hx⟩, ⟨%d1, %g1, %hg1, Hr⟩, ⟨%d2, %g2, %hg2, He⟩, ⟨%d3, %g3, %hg3, Hw⟩, ⟨%d4, %g4, %hg4, Hout⟩⟩, Hk⟩
  have hx : g0 = xIn m c := by rw [hg0]; unfold Dat.before; rw [if_pos (fetch0_0 _)]; rfl
  have hr : g1 = rIn m c := by rw [hg1]; unfold Dat.before; rw [if_pos (fetch0_1 _)]; rfl
  have he : g2 = eIn m c := by rw [hg2]; unfold Dat.before; rw [if_pos (fetch0_2 _)]; rfl
  have hw : g3 = wIn m c := by rw [hg3]; unfold Dat.before; rw [if_pos (fetch0_3 _)]; rfl
  subst hx; subst hr; subst he; subst hw
  unfold Dat.owesAt Pipeline.owesWithin
  icases Ho with ⟨%W, %hW, HO⟩
  rw [show (dats m 0 c).owed (t0_0).castSucc = owe₀ c from rfl]
  simp only [dev1_eq c, dev2_eq c, dev3_eq c]
  -- the three signals
  iapply (Rounds.wp_signal 𝒱₀ EHand (hand (F := F)) (c : Thread nD τ) none (dst := (peer 0 c : Thread nD τ)) (κ := K (peer 0 c))
      (d := 0) (by rw [duties_bar]; exact Finset.mem_univ _) (by rfl) () (owe₁ c) rfl) $$ [HO Ht0]
  · isplitr; · iexact HI0
    isplitl [HO]; · iexact HO
    isplitl [Ht0]; · iexact Ht0
    isplitr; · iempintro
    iexact Hr0
  iintro HO
  unfold owe₁
  iapply (Rounds.wp_signal 𝒱₀ EHand (hand (F := F)) (c : Thread nD τ) none (dst := (peer 1 c : Thread nD τ)) (κ := K (peer 1 c))
      (d := 1) (by rw [duties_bar]; exact Finset.mem_univ _) (by rfl) () (owe₂ c) rfl) $$ [HO Ht1]
  · isplitr; · iexact HI1
    isplitl [HO]; · iexact HO
    isplitl [Ht1]; · iexact Ht1
    isplitr; · iempintro
    iexact Hr1
  iintro HO
  unfold owe₂
  iapply (Rounds.wp_signal 𝒱₀ EHand (hand (F := F)) (c : Thread nD τ) none (dst := (peer 2 c : Thread nD τ)) (κ := K (peer 2 c))
      (d := 2) (by rw [duties_bar]; exact Finset.mem_univ _) (by rfl) () 0 (zero_add _).symm) $$ [HO Ht2]
  · isplitr; · iexact HI2
    isplitl [HO]; · iexact HO
    isplitl [Ht2]; · iexact Ht2
    isplitr; · iempintro
    iexact Hr2
  iintro HO
  -- the wait for three
  iapply (Rounds.wp_wait_rest_token 𝒱₀ EHand (hand (F := F)) (c : Thread nD τ) none (κ := K c)
      (wpE_semWait_eq 𝒱₀ (c : Thread nD τ) none Set.univ) (Set.mem_univ _) () (O := 0) (W := W) (R := 0) (m := 0) (T := ∅)
      (by rw [expect_bar]; decide)) $$ [Hcred HO Hat]
  · isplitr; · iexact HI
    isplitl [Hcred]; · iexact Hcred
    isplitl [HO]; · iexact HO
    isplitr; · rw [MayWait_zero]; iempintro
    iexact Hat
  iintro ⟨HO, Hat, -, -⟩
  imod (Rounds.cell_close EHand (hand (F := F)) (Set.mem_univ (K c)) (fun h => h) (R := 0 + 1) (duties_later (barCell c))) $$ [Hat] with Hz
  · isplitr; · iexact HI
    iexact Hat
  -- the local computation
  iapply (wp_load 𝒱₀ (c : Thread nD τ) none Set.univ (m := xM) (Finset.subset_univ _)) $$ Hx; iintro Hx
  iapply (wp_load 𝒱₀ (c : Thread nD τ) none Set.univ (m := rM) (Finset.subset_univ _)) $$ Hr; iintro Hr
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := wM) (Finset.subset_univ _)) $$ Hw; iintro Hw
  iapply (wp_load 𝒱₀ (c : Thread nD τ) none Set.univ (m := bM) (Finset.subset_univ _)) $$ Hwb; iintro Hwb
  iapply (wp_store 𝒱₀ (c : Thread nD τ) none Set.univ (m := bM) (r := slot0) (Mk := Finset.univ) (Finset.subset_univ _)) $$ Hwb; iintro Hwb
  iapply (wp_load 𝒱₀ (c : Thread nD τ) none Set.univ (m := wM) (Finset.subset_univ _)) $$ Hw; iintro Hw
  iapply (wp_load 𝒱₀ (c : Thread nD τ) none Set.univ (m := bM) (Finset.subset_univ _)) $$ Hwb; iintro Hwb
  iapply (wp_store 𝒱₀ (c : Thread nD τ) none Set.univ (m := bM) (r := slot1) (Mk := Finset.univ) (Finset.subset_univ _)) $$ Hwb; iintro Hwb
  iapply (wp_load 𝒱₀ (c : Thread nD τ) none Set.univ (m := wM) (Finset.subset_univ _)) $$ Hw; iintro Hw
  iapply (wp_load 𝒱₀ (c : Thread nD τ) none Set.univ (m := bM) (Finset.subset_univ _)) $$ Hwb; iintro Hwb
  iapply (wp_store 𝒱₀ (c : Thread nD τ) none Set.univ (m := bM) (r := slot2) (Mk := Finset.univ) (Finset.subset_univ _)) $$ Hwb; iintro Hwb
  iapply (wp_load 𝒱₀ (c : Thread nD τ) none Set.univ (m := wM) (Finset.subset_univ _)) $$ Hw; iintro Hw
  iapply (wp_load 𝒱₀ (c : Thread nD τ) none Set.univ (m := bM) (Finset.subset_univ _)) $$ Hwb; iintro Hwb
  iapply (wp_store 𝒱₀ (c : Thread nD τ) none Set.univ (m := bM) (r := slot3) (Mk := Finset.univ) (Finset.subset_univ _)) $$ Hwb; iintro Hwb
  iapply (wp_load 𝒱₀ (c : Thread nD τ) none Set.univ (m := bM) (Finset.subset_univ _)) $$ Hwb; iintro Hwb
  iapply (wp_load 𝒱₀ (c : Thread nD τ) none Set.univ (m := bM) (Finset.subset_univ _)) $$ Hwb; iintro Hwb
  iapply (wp_load 𝒱₀ (c : Thread nD τ) none Set.univ (m := bM) (Finset.subset_univ _)) $$ Hwb; iintro Hwb
  iapply (wp_load 𝒱₀ (c : Thread nD τ) none Set.univ (m := bM) (Finset.subset_univ _)) $$ Hwb; iintro Hwb
  iapply (wp_load 𝒱₀ (c : Thread nD τ) none Set.univ (m := accM) (Finset.subset_univ _)) $$ Hacc; iintro Hacc
  iapply (wp_store 𝒱₀ (c : Thread nD τ) none Set.univ (m := accM) (r := accR) (Mk := Finset.univ) (Finset.subset_univ _)) $$ Hacc; iintro Hacc
  iapply (wp_load 𝒱₀ (c : Thread nD τ) none Set.univ (m := oM) (Finset.subset_univ _)) $$ Hout; iintro Hout
  iapply (wp_store 𝒱₀ (c : Thread nD τ) none Set.univ (m := oM) (r := accR) (Mk := Finset.univ) (Finset.subset_univ _)) $$ Hout; iintro Hout
  rw [write_out, wp_ret]; imodintro
  iapply Hk
  unfold bodyPost after scratch Dat.owesAt Pipeline.owesWithin
  rw [show (dats m 0 c).owed (t0_0).succ = 0 from rfl, scopedRest0_eq]
  isplitl [Hz Hown Hacc Hrb Hwb]
  · isplitl [Hz]; · iexact Hz
    isplitl [Hown]; · iexact Hown
    isplitl [Hacc]; · iexists _; iexact Hacc
    isplitl [Hrb]; · iexact Hrb
    iexists _; iexact Hwb
  isplitl [HO]
  · iexists (insert (SemLoc.reg barS, ()) W)
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [He]
  · iexists _; isplitr; · (ipureintro; rfl)
    iexact He
  isplitl [Hw]
  · iexists _; isplitr; · (ipureintro; rfl)
    iexact Hw
  iapply (stg_of c cc0_stg4_0 _ (outAt m c) ?_) $$ Hout
  rw [read_x, read_r, get0, get1, get2, get_put]
  rfl

set_option maxRecDepth 4000 in
/-- The library's body obligation on device `c`. -/
theorem body_obligation (c : Dev nD) : BodyObligation (dats (F := F) m 0 c) (defs₀ (F := F)) 𝒱₀ () Set.univ := fun t => by
  rw [fin_N0 t, bigSep_W0, bigSep_W0]
  simp only [owns_whole_eq]
  show bodyPre m c ⊢ wp frame (wpE (defs₀ (F := F)) 𝒱₀ c none) Set.univ (bodyAt0 (F := F) t0_0) (fun _ => bodyPost m c)
  iintro H
  iapply (sound_body m c fun _ => bodyPost m c)
  isplitl [H]; · iexact H
  iintro H; iexact H

end Cert.KernelCxIdealRun

end
-- ==== Proof.KernelCxIdealLaunch.lean ====
/-
# `KernelCxIdeal`: the launch — the handshake's cells funded on every device at once, and the run
-/
module

public import proofs.«01_k».proof.Proof.KernelCxIdealBody

@[expose] public section

noncomputable section

namespace Cert.KernelCxIdealRun

open Cert.KernelCxIdeal Cert.KernelCxIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UA ℕ

variable (m : (ℓ : Loc nD τ sig) → Buf (Elt F) ℓ) (ρ : Dev nD → PrngReg)

/-! ## The launch's ghost state -/

theorem bar_inj : Function.Injective (barCell : Dev nD → GSem nD τ sig) :=
  fun a b h => Fin.ext (congrArg (fun g : GSem nD τ sig => g.1.1.val) h)

def barCells : Finset (GSem nD τ sig) := Finset.univ.map ⟨barCell, bar_inj⟩

abbrev tokOf (cd : Dev nD × Fin 3) : GSem nD τ sig × ℕ × Fin 3 := (barCell cd.1, 0, cd.2)
theorem tok_inj : Function.Injective tokOf := fun a b h =>
  Prod.ext (bar_inj (congrArg (fun x : GSem nD τ sig × ℕ × Fin 3 => x.1) h)) (congrArg (fun x : GSem nD τ sig × ℕ × Fin 3 => x.2.2) h)
def barToks : Finset (GSem nD τ sig × ℕ × Fin 3) := Finset.univ.map ⟨tokOf, tok_inj⟩

def u₀ : UA := (initOf (Pipeline.cells cfgs cellOf_inj) (Pipeline.launchToks cfgs cellOf_inj), initOf barCells barToks)

/-- The tokens of the duties at device `c`'s own cell. -/
def ownToks (c : Dev nD) : sProp 𝕄 :=
  iprop(dutyTok EHand (barCell c) 0 0 ∗ dutyTok EHand (barCell c) 0 1 ∗ dutyTok EHand (barCell c) 0 2)

/-- What the launch deals device `c`. -/
def dealt (c : Dev nD) : sProp 𝕄 :=
  iprop(roundState EHand hand (barCell c) 0 ∗ atPos EHand (barCell c) 0 ∅ 0 ∗ reached EHand (barCell c) 0 ∗ ownToks c)

omit [FloatOps F] in
theorem fund_hand : BI.own (EHand (initOf barCells barToks)) ⊢ (|==> bigSep Finset.univ (dealt (F := F)) : sProp 𝕄) := by
  have hX (Φ : GSem nD τ sig → sProp 𝕄) : bigSep barCells Φ = bigSep Finset.univ fun c : Dev nD => Φ (barCell c) := by
    unfold barCells; rw [bigSep_map]; rfl
  have hT : bigSep barToks (fun x => (dutyTok EHand x.1 x.2.1 x.2.2 : sProp 𝕄)) = bigSep Finset.univ fun c : Dev nD => ownToks c := by
    unfold barToks; rw [bigSep_map, bigSep_univ_prod]
    exact bigSep_congr fun c _ => by
      unfold ownToks; rw [bigSep_univ_eq_bigSepL [(0 : Fin 3), 1, 2] (by decide) (by decide)]; rfl
  iintro HX
  imod (Rounds.fund EHand (hand (F := F)) barCells barToks) $$ HX with ⟨Hst, Hr, Hat, Htok⟩
  imodintro
  ihave Hst' := (Entails.of_eq (hX fun g => roundState EHand (hand (F := F)) g 0)) $$ Hst
  ihave Hat' := (Entails.of_eq (hX fun g => atPos EHand g 0 ∅ 0)) $$ Hat
  ihave Hr' := (Entails.of_eq (hX fun g => reached EHand g 0)) $$ Hr
  ihave Htok' := (Entails.of_eq hT) $$ Htok
  unfold dealt; simp only [bigSep_sep']
  isplitl [Hst']; · iexact Hst'
  isplitl [Hat']; · iexact Hat'
  isplitl [Hr']; · iexact Hr'
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- What every device may know: all cells' invariants and that all are at round 0. -/
def records (K : Dev nD → ℕ) : sProp 𝕄 :=
  iprop((bigSep Finset.univ fun c : Dev nD => cellInv EHand hand (K c) (barCell c)) ∗ bigSep Finset.univ fun c : Dev nD => reached EHand (barCell c) 0)

instance records_persistent (K : Dev nD → ℕ) : BI.Persistent (records (F := F) K) := by unfold records; infer_instance

omit [FloatOps F] in
theorem inv_at (K : Dev nD → ℕ) (c : Dev nD) :
    (bigSep Finset.univ fun c : Dev nD => (cellInv EHand hand (K c) (barCell c) : sProp 𝕄)) ⊢ cellInv EHand hand (K c) (barCell c) :=
  bigSep_elim (Finset.mem_univ c)
omit [FloatOps F] in
theorem reached_at (c : Dev nD) :
    (bigSep Finset.univ fun c : Dev nD => (reached EHand (barCell c) 0 : sProp 𝕄)) ⊢ reached EHand (barCell c) 0 :=
  bigSep_elim (Finset.mem_univ c)

omit [FloatOps F] in
theorem ghost_intro (K : Dev nD → ℕ) (c : Dev nD) :
    iprop(records (F := F) K ∗ (atPos EHand (barCell c) 0 ∅ 0 ∗ payToks c)) ⊢ iprop(∃ K, ghost (F := F) K c) := by
  unfold records ghost invs
  iintro ⟨⟨#HI, #HR⟩, Hat, Htok⟩
  iexists K
  isplitr
  · isplitr; · iapply (inv_at K c); iexact HI
    isplitr; · iapply (inv_at K (peer 0 c)); iexact HI
    isplitr; · iapply (inv_at K (peer 1 c)); iexact HI
    iapply (inv_at K (peer 2 c)); iexact HI
  isplitl [Hat]; · iexact Hat
  isplitr
  · isplitr; · iapply (reached_at (F := F) (peer 0 c)); iexact HR
    isplitr; · iapply (reached_at (F := F) (peer 1 c)); iexact HR
    iapply (reached_at (F := F) (peer 2 c)); iexact HR
  iexact Htok

omit [FloatOps F] in
/-- Each duty's token goes to the partner that pays it. -/
theorem toks_swap : (bigSep Finset.univ fun c : Dev nD => (ownToks c : sProp 𝕄)) ⊢ bigSep Finset.univ fun c : Dev nD => payToks c := by
  unfold ownToks payToks
  rw [bigSep_sep', bigSep_sep', bigSep_sep', bigSep_sep',
    bigSep_univ_equiv (swap 0) (fun c : Dev nD => (dutyTok EHand (barCell c) 0 0 : sProp 𝕄)),
    bigSep_univ_equiv (swap 1) (fun c : Dev nD => (dutyTok EHand (barCell c) 0 1 : sProp 𝕄)),
    bigSep_univ_equiv (swap 2) (fun c : Dev nD => (dutyTok EHand (barCell c) 0 2 : sProp 𝕄))]
  exact .rfl

omit [FloatOps F] in
/-- From the barrier counters and what the launch dealt, every device's part of the handshake. -/
theorem deal : (bigSep Finset.univ fun c : Dev nD => iprop(unscopedSems0 c ∗ dealt (F := F) c) : sProp 𝕄)
    ⊢ |={Set.univ}=> bigSep Finset.univ fun c : Dev nD => iprop(∃ K, ghost (F := F) K c) := by
  have halloc : (bigSep Finset.univ fun c : Dev nD => iprop(semVal (barCell c) 0 ∗ roundState EHand (hand (F := F)) (barCell c) 0) : sProp 𝕄)
      ⊢ |={Set.univ}=> bigSep Finset.univ fun c : Dev nD => iprop(∃ κ : ℕ, cellInv EHand (hand (F := F)) κ (barCell c)) :=
    (bigSep_mono fun c _ => (Rounds.body_intro EHand (hand (F := F)) (barCell c)).trans inv_alloc).trans (bigSep_fupd _ _)
  rw [bigSep_congr (s := Finset.univ) (fun (c : Dev nD) _ => by rw [unscopedSems0_eq (F := F) c])]
  unfold dealt
  simp only [bigSep_sep']
  rw [bigSep_sep'] at halloc
  iintro ⟨Hv, Hst, Hat, Hr, Htok⟩
  imod halloc $$ [Hv Hst] with HI
  · isplitl [Hv] <;> iassumption
  ihave HK := (BI.bigSep_exists_pi Finset.univ (fun (c : Dev nD) (κ : ℕ) => (cellInv EHand (hand (F := F)) κ (barCell c) : sProp 𝕄))) $$ HI
  icases HK with ⟨%K, HI⟩
  ihave Htk := (toks_swap (F := F)) $$ Htok
  imodintro
  have hgo : iprop(records (F := F) K ∗ bigSep Finset.univ fun c : Dev nD => iprop(atPos EHand (barCell c) 0 ∅ 0 ∗ payToks (F := F) c))
      ⊢ bigSep Finset.univ fun c : Dev nD => iprop(∃ K, ghost (F := F) K c) :=
    (sep_mono_left (BI.bigSep_of_persistent Finset.univ (records (F := F) K))).trans
      (by rw [← bigSep_sep']; exact bigSep_mono fun c _ => ghost_intro K c)
  iapply hgo
  rw [bigSep_sep']
  unfold records
  isplitl [HI Hr]
  · isplitl [HI] <;> iassumption
  isplitl [Hat] <;> iassumption

/-! ### The launch credit -/

omit [FloatOps F] in
theorem peer_iff (d : Fin 3) (a b : Dev nD) : Iff (barCell b = barCell (peer d a) ∧ () = ()) (a = peer d b) := by
  constructor
  · rintro ⟨h, -⟩; rw [bar_inj h, peer_peer]
  · rintro rfl; rw [peer_peer]; exact ⟨rfl, rfl⟩

/-- What device `a` owes device `b`'s cell: one unit for every pattern that pairs them. -/
theorem owed_bar (a b : Dev nD) :
    owe₀ a (barCell b) () = (if a = peer 2 b then 1 else 0) + (if a = peer 1 b then 1 else 0) + (if a = peer 0 b then 1 else 0) := by
  unfold owe₀ owe₁ owe₂
  rw [Pi.add_apply, Finsupp.add_apply, Pi.add_apply, Finsupp.add_apply, tallyAt_apply, tallyAt_apply, tallyAt_apply,
    if_congr (peer_iff 2 a b) rfl rfl, if_congr (peer_iff 1 a b) rfl rfl, if_congr (peer_iff 0 a b) rfl rfl]

theorem launch_bar (c : Dev nD) :
    tallyOn (barCell c) (launchCredit (Pipeline.owing owe₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1, Finset.sum_ite_eq' Finset.univ (peer 0 c) fun _ => 1,
    if_pos (Finset.mem_univ _), if_pos (Finset.mem_univ _), if_pos (Finset.mem_univ _)]

omit [FloatOps F] in
theorem credit (c : Dev nD) : (Pipeline.launchCred owe₀ c : sProp 𝕄) ⊢ cred (tallyAt (barCell c) () 3) := by
  unfold Pipeline.launchCred
  rw [bigSep_univ_at _ (SemLoc.reg barS), launch_bar]
  iintro ⟨H, -⟩; iexact H

/-! ## The region -/

theorem share_eq (c : Dev nD) (w : Fin cfg0.W) : (dats m 0 c).share w = fullShare := by unfold Dat.share; split <;> rfl

theorem waits (c : Dev nD) : (levAts L lv : sProp 𝕄) ⊢ Pipeline.cellsWaits cfgs (dats m) () 0 c :=
  Pipeline.cellsWaits_intro cfgs (dats m) () 0 c fun w s t =>
    mayWait_stage c _ _ (by
      rcases t with ⟨_ | _, ht⟩
      · exact Or.inl rfl
      · exact Or.inr rfl)

abbrev adm : (p : Fin 1) → (pcfgs (F := F) p).Adm := fun p => (cfgs p).toPCfg_adm

/-- What rides beside the buffers up to the region. -/
def riding (c : Dev nD) : sProp 𝕄 := iprop(owes (c : Thread nD τ) (owe₀ c) ∅ ∗ entry (F := F) c)

/-- The windows' arrays after the region. -/
def arrays (c : Dev nD) : sProp 𝕄 :=
  bigSep Finset.univ fun w : Fin cfg0.W => (((c : Thread nD τ).loc (Pipeline.arrRef spec0 w)) ↦{fullShare} (dats m 0 c).arrAt w cfg0.N : sProp 𝕄)

def left (c : Dev nD) : sProp 𝕄 :=
  iprop(arrays m c ∗ Pipeline.unscopedRest (Ix := Unit) (Name := ℕ) (U := UA) (Lvl := ℕ) spec0 c (V m c) ∗ unscopedSems0 c)

omit [FloatOps F] in
theorem prefHeld_none (c : Dev nD) (q) (pf) :
    (Pipeline.prefHeld (Ix := Unit) (Name := ℕ) (U := UA) (Lvl := ℕ) (Val := Elt F) (pcfgs (F := F) 0).pre c q pf : sProp 𝕄) = BI.emp :=
  bigSep_univ_eq_bigSepL ([] : List (Fin 0)) (by decide) (by decide) _

/-- The kernel's region: the arrays and the handshake's state in, the arrays and the closed barrier cell out. -/
def reg : Pipeline.RegionSeg (pcfgs (F := F)) adm (dats m) () defs₀ 𝒱₀ L lv 0 where
  win := winFacts0.to₀
  block_pos := block_pos0
  stage_whole := stage_whole0
  K := Fin 24
  osem := osem
  ho := ownSemFacts
  hbody c := (body_obligation m c).loose
  hwaits := waits m
  pre c := iprop(unscopedBufs c (V m c) ∗ riding c)
  post c := iprop(left m c ∗ ∃ W, owes (c : Thread nD τ) (0 : CellTallies nD τ sig Unit) W)
  X c := iprop(entry c ∗ Pipeline.ownSems0 (Ix := Unit) (Name := ℕ) (U := UA) (Lvl := ℕ) (Val := Elt F) (τ := τ) osem c)
  Y c := unscopedSems0 c
  Z c := Pipeline.unscopedRest (Ix := Unit) (Name := ℕ) (U := UA) (Lvl := ℕ) spec0 c (V m c)
  hentry c := by
    rw [prefHeld_none, Pipeline.unscopedBufs_split cfgs 0 (by decide) winFacts0.arr_inj c (V m c),
      Pipeline.arrays_eq cfgs (dats m) 0 c arr_whole0 (share_eq m c)]
    unfold riding
    iintro ⟨⟨⟨Ha, Hz⟩, HO, He⟩, Hown, -⟩
    imodintro
    isplitl [Ha]; · iexact Ha
    isplitr; · iempintro
    isplitl [HO]
    · unfold Dat.owesAt Pipeline.owesWithin
      iexists ∅
      isplitr; · ipureintro; exact fun _ _ => Or.inl trivial
      iexact HO
    isplitl [He Hown]
    · isplitl [He] <;> iassumption
    iexact Hz
  hin c := by
    rw [show (dats m 0 c).Φ 0 = before c from rfl]
    unfold before scratch
    iintro ⟨⟨He, Hown⟩, -, Hs⟩
    isplitl [He]; · iexact He
    isplitl [Hown] <;> iassumption
  hout c := by
    rw [show (dats m 0 c).Φ (Fin.last _) = after c from rfl, unscopedSems0_eq]
    unfold after scratch
    exact .rfl
  hexit c := by
    unfold left arrays
    rw [Pipeline.arrays_eq cfgs (dats m) 0 c arr_whole0 (share_eq m c)]
    iintro ⟨Ha, HO, Hy, Hz⟩
    imodintro
    isplitl [Ha Hy Hz]
    · isplitl [Ha]; · iexact Ha
      isplitl [Hz] <;> iassumption
    unfold Dat.owesAt Pipeline.owesWithin
    icases HO with ⟨%W, -, HO⟩
    iexists W; iexact HO

/-! ## The host operations before the region -/

def bufs : Finset (DevRef τ sig) := (StableHlo.tcRefs τ sig).filter fun b => ¬ b.isScoped

omit [FloatOps F] in
theorem held_eq (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem ops_sub : ∀ op ∈ (hostOps0 : List (HloOp τ sig (Elt F))), op.bufs ⊆ bufs := by
  intro op h
  simp only [hostOps0, List.mem_cons, List.not_mem_nil, or_false] at h
  rcases h with rfl | rfl
  · show ({Proc.devRef .tc main_arg0, Proc.devRef .tc main_v1} : Finset (DevRef τ sig)) ⊆ bufs; decide
  · show ({Proc.devRef .tc main_arg3, Proc.devRef .tc main_v2} : Finset (DevRef τ sig)) ⊆ bufs; decide

def host : Pipeline.HostSeg (Ix := Unit) (Name := ℕ) (U := UA) (Lvl := ℕ) (pcfgs (F := F)) defs₀ 𝒱₀ L lv :=
  Pipeline.HostSeg.ofOps _ _ _ _ _ bufs hostOps0 ops_sub (List.forall_iff_forall_mem.mp hostOps0_fresh) (fun c b => m (c, b)) riding

def segs : List (Pipeline.Seg (pcfgs (F := F)) adm (dats m) () defs₀ 𝒱₀ L lv) := [.host (host m), .region (reg m)]

/-! ## The run -/

def begun (c : Dev nD) : sProp 𝕄 := iprop(unscopedBufs c (fun b => m ((c : Thread nD τ).loc b)) ∗ riding c)

theorem start :
    iprop((bigSep Finset.univ fun c : Dev nD => iprop(unscopedBufs c (fun b => m ((c : Thread nD τ).loc b)) ∗ unscopedSems0 c
          ∗ owes (c : Thread nD τ) (owe₀ c) ∅ ∗ Pipeline.launchCred owe₀ c ∗ prngReg c (ρ c) ∗ dealt c)) ∗ levAts L lv)
      ⊢ (|={Set.univ}=> bigSep Finset.univ (begun m) : sProp 𝕄) := by
  have hone (c : Dev nD) : iprop(unscopedBufs c (fun b => m ((c : Thread nD τ).loc b)) ∗ unscopedSems0 c
        ∗ owes (c : Thread nD τ) (owe₀ c) ∅ ∗ Pipeline.launchCred owe₀ c ∗ prngReg c (ρ c) ∗ dealt c)
      ⊢ (iprop((unscopedBufs c (fun b => m ((c : Thread nD τ).loc b)) ∗ owes (c : Thread nD τ) (owe₀ c) ∅ ∗ cred (tallyAt (barCell c) () 3))
          ∗ (unscopedSems0 c ∗ dealt c)) : sProp 𝕄) := by
    iintro ⟨Hb, Hs, HO, Hc, -, Hd⟩
    ihave Hc' := (credit (F := F) c) $$ Hc
    isplitl [Hb HO Hc']
    · isplitl [Hb]; · iexact Hb
      isplitl [HO] <;> iassumption
    isplitl [Hs] <;> iassumption
  iintro ⟨H, -⟩
  ihave H' := (show (bigSep Finset.univ fun c : Dev nD => iprop(unscopedBufs c (fun b => m ((c : Thread nD τ).loc b)) ∗ unscopedSems0 c
          ∗ owes (c : Thread nD τ) (owe₀ c) ∅ ∗ Pipeline.launchCred owe₀ c ∗ prngReg c (ρ c) ∗ dealt c))
      ⊢ (iprop((bigSep Finset.univ fun c : Dev nD => iprop(unscopedBufs c (fun b => m ((c : Thread nD τ).loc b)) ∗ owes (c : Thread nD τ) (owe₀ c) ∅ ∗ cred (tallyAt (barCell c) () 3)))
          ∗ bigSep Finset.univ fun c : Dev nD => iprop(unscopedSems0 c ∗ dealt c)) : sProp 𝕄) from by
        rw [← bigSep_sep']; exact bigSep_mono fun c _ => hone c) $$ H
  icases H' with ⟨HB, HD⟩
  imod (deal (F := F)) $$ HD with HG
  imodintro
  have hend : iprop((bigSep Finset.univ fun c : Dev nD => iprop(unscopedBufs c (fun b => m ((c : Thread nD τ).loc b)) ∗ owes (c : Thread nD τ) (owe₀ c) ∅ ∗ cred (tallyAt (barCell c) () 3)))
          ∗ bigSep Finset.univ fun c : Dev nD => iprop(∃ K, ghost (F := F) K c)) ⊢ (bigSep Finset.univ (begun m) : sProp 𝕄) := by
    rw [← bigSep_sep']
    refine bigSep_mono fun c _ => ?_
    show iprop((unscopedBufs c (fun b => m ((c : Thread nD τ).loc b)) ∗ owes (c : Thread nD τ) (owe₀ c) ∅ ∗ cred (tallyAt (barCell c) () 3))
      ∗ ∃ K, ghost (F := F) K c) ⊢ (begun m c : sProp 𝕄)
    unfold begun riding entry
    iintro ⟨⟨Hb, HO, Hc⟩, HG⟩
    isplitl [Hb]; · iexact Hb
    isplitl [HO]; · iexact HO
    isplitl [HG] <;> iassumption
  iapply hend
  isplitl [HB] <;> iassumption

/-- The result array's contents at the end: the kernel's block written over it. -/
def outArr (c : Dev nD) : Buf (Elt F) ((c : Thread nD τ).loc (Pipeline.arrRef spec0 4)) := (dats m 0 c).arrAt 4 cfg0.N

set_option backward.isDefEq.respectTransparency.types false in
set_option maxRecDepth 8000 in
/-- Every weakly fair execution terminates; every final state has the windows' arrays as the region leaves them, the other
    arguments as launched and every semaphore at zero. -/
theorem run : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
        ∧ r.2.mem ((c : Thread nD τ).loc (Pipeline.arrRef spec0 4)) = outArr m c) ∧ r.2.sem = fun _ => 0) :=
  Pipeline.θ_run_regions_kit_sems (pcfgs (F := F)) adm (dats m) () cellOf_inj EPipe defs₀ 𝒱₀ L lv m ρ main (segs m)
    (fun c Q => by rw [main_segs adm (dats m) () 𝒱₀ L lv (host m) (reg m) rfl c]; exact .rfl)
    (by simp only [segs, Pipeline.Seg.pipes_host, Pipeline.Seg.pipes_region, Pipeline.Seg.pipes_nil]; decide)
    (O₀ := owe₀) (hL := L_of_ne) (G := dealt) (u₀ := u₀)
    (hu₀ := by
      unfold u₀
      iintro Hu
      ihave H := (ownU_pair _ _) $$ Hu
      icases H with ⟨HP, HX⟩
      imod (fund_hand (F := F)) $$ HX with HG
      imodintro
      isplitl [HP] <;> iassumption)
    (T₀ := begun m) (Tₙ := left m)
    (hch := ⟨fun c => by
        show begun m c ⊢ iprop(StableHlo.held (c : Thread nD τ) bufs (fun b => m (c, b)) ∗ riding c)
        rw [← held_eq]; exact .rfl,
      fun c => by
        show iprop(StableHlo.held (c : Thread nD τ) bufs (StableHlo.after hostOps0 (fun b => m (c, b))) ∗ riding c) ⊢ iprop(unscopedBufs c (V m c) ∗ riding c)
        rw [← held_eq],
      fun c => .rfl⟩)
    (hinit := start m ρ)
    (QY := fun c s => ((s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_arg3) = m ((c : Thread nD τ).loc main_arg3))
        ∧ s.mem ((c : Thread nD τ).loc (Pipeline.arrRef spec0 4)) = outArr m c)
      ∧ ∀ sm : SemLoc sig, sm.isScoped .tc = false → s.sem ((c.tc : Thread nD τ), sm) = 0)
    (hfin := fun c s' => by
      unfold left arrays
      rw [bigSep_W0, unscopedRest0_eq]
      iintro ⟨⟨⟨H0, H1, H2, H3, H4⟩, ⟨Ha, Hb⟩, Hs⟩, HSI⟩
      icombine HSI H1 gives %h1
      icombine HSI H2 gives %h2
      icombine HSI H4 gives %h4
      icombine HSI Ha gives %ha
      icombine HSI Hb gives %hb
      imod (Pipeline.unscopedSems0_read (X := unscopedSems0 c) (c := c) fupd_intro s') $$ [Hs HSI] with ⟨%hs, HSI⟩
      · isplitl [Hs] <;> iassumption
      imodintro
      isplitr
      · ipureintro
        exact ⟨⟨⟨(Buf.eq_of_forall_mem_univ ha).trans (V_main_arg0 m c),
          (Buf.eq_of_forall_mem_univ h1).trans (((dats m 0 c).arrAt_in 1 rfl _).trans (V_main_arg1 m c)),
          (Buf.eq_of_forall_mem_univ h2).trans (((dats m 0 c).arrAt_in 2 rfl _).trans (V_main_arg2 m c)),
          (Buf.eq_of_forall_mem_univ hb).trans (V_main_arg3 m c)⟩, Buf.eq_of_forall_mem_univ h4⟩, hs⟩
      iexact HSI)
    (hQ := fun s h hs => ⟨fun c => (h c).1, sem_eq_zero hs fun c => (h c).2⟩)

/-- The frame: the arguments as launched, every semaphore at zero. -/
theorem frame : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run defs _ _).mono (fun _ h => ⟨fun c => (h.1 c).1, h.2⟩) (run m ρ)

end Cert.KernelCxIdealRun

end
-- ==== Proof.KernelCxIdealOutput.lean ====
/-
# `KernelCxIdeal`: what the result array holds at the end

The kernel has no grid: its one block of each window is the whole array, so the staged blocks are the arrays the region
finds, and the result array ends as the block the body wrote.
-/
module

public import proofs.«01_k».proof.Proof.KernelCxIdealLaunch

@[expose] public section

noncomputable section

namespace Cert.KernelCxIdealRun

open Cert.KernelCxIdeal Cert.KernelCxIdeal.Gen
open Idealize.ShloMosaic Idealize.ShloMosaic.TcCoe Idealize.SL.Sem

variable {F : FTy → Type} [FloatOps F]
variable (m : (ℓ : Loc nD τ sig) → Buf (Elt F) ℓ) (c : Dev nD)

theorem read_win0 (f : Buf (Elt F) ((c : Thread nD τ).loc (Pipeline.arrRef spec0 0))) :
    (win0_0.blk (0 : Fin 1)).view.read (Elt F) f = f :=
  Memref.read_access_unit_zero (Elt F) (Pipeline.arrRef spec0 0)
    (funext fun a => by fin_cases a <;> decide) (fun a => by fin_cases a <;> decide) f
theorem read_win1 (f : Buf (Elt F) ((c : Thread nD τ).loc (Pipeline.arrRef spec0 1))) :
    (win0_1.blk (0 : Fin 1)).view.read (Elt F) f = f :=
  Memref.read_access_unit_zero (Elt F) (Pipeline.arrRef spec0 1)
    (funext fun a => by fin_cases a <;> decide) (fun a => by fin_cases a <;> decide) f
theorem read_win2 (f : Buf (Elt F) ((c : Thread nD τ).loc (Pipeline.arrRef spec0 2))) :
    (win0_2.blk (0 : Fin 1)).view.read (Elt F) f = f :=
  Memref.read_access_unit_zero (Elt F) (Pipeline.arrRef spec0 2)
    (funext fun a => by fin_cases a <;> decide) (fun a => by fin_cases a <;> decide) f
theorem read_win3 (f : Buf (Elt F) ((c : Thread nD τ).loc (Pipeline.arrRef spec0 3))) :
    (win0_3.blk (0 : Fin 1)).view.read (Elt F) f = f :=
  Memref.read_access_unit_zero (Elt F) (Pipeline.arrRef spec0 3)
    (funext fun a => by fin_cases a <;> decide) (fun a => by fin_cases a <;> decide) f
theorem read_win4 (f : Buf (Elt F) ((c : Thread nD τ).loc (Pipeline.arrRef spec0 4))) :
    (win0_4.blk (0 : Fin 1)).view.read (Elt F) f = f :=
  Memref.read_access_unit_zero (Elt F) (Pipeline.arrRef spec0 4)
    (funext fun a => by fin_cases a <;> decide) (fun a => by fin_cases a <;> decide) f

theorem xIn_eq : xIn m c = V m c (Pipeline.arrRef spec0 0) := read_win0 c _
theorem rIn_eq : rIn m c = V m c (Pipeline.arrRef spec0 1) := read_win1 c _
theorem eIn_eq : eIn m c = V m c (Pipeline.arrRef spec0 2) := read_win2 c _
theorem wIn_eq : wIn m c = V m c (Pipeline.arrRef spec0 3) := read_win3 c _

theorem flushed_out : (dats m 0 c).flushed 4 t0_0 = outAt m c := by
  show (cfg0.win 4).cut _ ((dats m 0 c).after 4 t0_0) = _
  exact funext fun _ => rfl

theorem outArr_eq : outArr m c = outAt m c := by
  have hw : ((cfg0.win 4).blk t0_0).view.read (Elt F) ((dats m 0 c).arrAt 4 cfg0.N) = (dats m 0 c).flushed 4 t0_0 := by
    rw [show cfg0.N = t0_0.val + 1 from rfl, (dats m 0 c).arrAt_succ (4 : Fin 5) t0_0, flush0_4, if_pos rfl]
    exact View.read_write_univ _ _
  rw [flushed_out] at hw
  exact (read_win4 c _).symm.trans hw

end Cert.KernelCxIdealRun

end
-- ==== Proof.Mixture.lean ====
/-
# The mixture of experts, in plain sums over the extended reals

`prob`: the router's softmax of one token. `pick p a`: the probability of the expert that the word `a` names.
`gate p a b t`: the weight of expert `t` for a token that chose experts `a` and `b`. `part`: what four experts, numbered
from `4 * d`, contribute to one element of the result.
-/
module

public import Idealize.ShloMosaic.Lib.Pointwise

@[expose] public section

noncomputable section

namespace Cert.Mixture

open Idealize.ShloMosaic

abbrev Tokens : Shape := ⟨2, ![1024, 256]⟩
abbrev Router : Shape := ⟨2, ![256, 32]⟩
abbrev Choice : Shape := ⟨2, ![1024, 2]⟩
abbrev Four : Shape := ⟨3, ![4, 256, 512]⟩

section Token
variable (x : FVec Ideal Tokens .f32) (r : FVec Ideal Router .f32) (n : Fin 1024)

def score (e : Fin 32) : EReal := ∑ k : Fin 256, x (ix2 n k) * r (ix2 k e)
/-- The greatest score, folded from the pattern of minus infinity. -/
def top : EReal := (Finset.univ : Finset (Fin 32)).fold max (Ideal.ofBits .f32 4286578688#32) (score x r n)
def prob (e : Fin 32) : EReal :=
  Ideal.div (Ideal.exp (score x r n e - top x r n)) (∑ e' : Fin 32, Ideal.exp (score x r n e' - top x r n))
end Token

def pick (p : Fin 32 → EReal) (a : BitVec 32) : EReal := ∑ e : Fin 32, if BitVec.ofNat 32 e.val = a then p e else 0
def gate (p : Fin 32 → EReal) (a b t : BitVec 32) : EReal :=
  if a = t ∨ b = t then Ideal.div (pick p t) (pick p a + pick p b) else 0

/-- The number of a device's expert in slot `j`. -/
def expert (d : Fin 8) (j : Fin 4) : BitVec 32 := BitVec.ofNat 32 (4 * d.val + j.val)

section Element
variable (d : Fin 8) (x : FVec Ideal Tokens .f32) (r : FVec Ideal Router .f32) (c : IVec Choice 32) (w : FVec Ideal Four .f32)
variable (n : Fin 1024) (f : Fin 512)

def weight (j : Fin 4) : EReal := gate (prob x r n) (c (ix2 n 0)) (c (ix2 n 1)) (expert d j)
def term (j : Fin 4) : EReal := ∑ k : Fin 256, x (ix2 n k) * weight d x r c n j * w (ix3 j k f)
def part : EReal := term d x r c w n f 0 + term d x r c w n f 1 + term d x r c w n f 2 + term d x r c w n f 3
end Element

/-! ## The comparisons as the kernel writes them -/

theorem cmpi_eq (a b : BitVec 32) : IntOp.cmpi .eq a b = if a = b then 1#1 else 0#1 := by
  show BitVec.ofBool (a == b) = _
  by_cases h : a = b
  · rw [if_pos h, beq_iff_eq.mpr h]; rfl
  · rw [if_neg h, beq_eq_false_iff_ne.mpr h]; rfl

theorem select_eq {α : Type} (a b : BitVec 32) (u v : α) :
    Scalar.select (IntOp.cmpi .eq a b) u v = if a = b then u else v := by
  rw [cmpi_eq]
  by_cases h : a = b
  · rw [if_pos h, if_pos h]; rfl
  · rw [if_neg h, if_neg h]; rfl

theorem select_or {α : Type} (a b t : BitVec 32) (u v : α) :
    Scalar.select (IntOp.ori (IntOp.cmpi .eq a t) (IntOp.cmpi .eq b t)) u v = if a = t ∨ b = t then u else v := by
  rw [cmpi_eq, cmpi_eq]
  by_cases h : a = t <;> by_cases h' : b = t <;> simp only [h, h', if_true, if_false, or_true, true_or, or_self] <;> rfl

end Cert.Mixture

end
-- ==== Proof.KernelCxIdealValue.lean ====
/-
# `KernelCxIdeal`: the result in plain sums

Each stored value read at an index, over the extended reals, and the whole result of a device as `Cert.Mixture.part`.
-/
module

public import proofs.«01_k».proof.Proof.KernelCxIdealOutput
public import proofs.«01_k».proof.Proof.Mixture

@[expose] public section

noncomputable section

namespace Cert.KernelCxIdealRun

open Cert.KernelCxIdeal Cert.KernelCxIdeal.Gen Cert.Mixture
open Idealize.ShloMosaic Idealize.ShloMosaic.TcCoe Idealize.SL.Sem

theorem pay4_apply (x : Vec Ideal S1024x256 .f32) (r : Vec Ideal S256x32 .f32) (n : Fin 1024) (e : Fin 32) :
    k0_pay4 x r (ix2 n e) = prob x r n e := by
  pointwise [k0_pay4, k0_pay3, dot_S1024x256_S256x32_S1024x32_1_0_0_1_n_n]
  rfl

section Gates
variable (d : Dev nD) (p : FVec Ideal S1024x32 .f32) (a : IVec S1024x1 32) (b : Vec Ideal S1024x1 .i32) (n : Fin 1024)

/-- The device's number as the kernel computes it, and its experts' numbers. -/
abbrev word : BitVec 32 := Scalar.remsi (Scalar.divsi (Dev.word d) 1#32) 8#32

theorem expert0 : Scalar.addi (Scalar.muli (word d) 4#32) 0#32 = expert d 0 := by revert d; decide
theorem expert1 : Scalar.addi (Scalar.muli (word d) 4#32) 1#32 = expert d 1 := by revert d; decide
theorem expert2 : Scalar.addi (Scalar.muli (word d) 4#32) 2#32 = expert d 2 := by revert d; decide
theorem expert3 : Scalar.addi (Scalar.muli (word d) 4#32) 3#32 = expert d 3 := by revert d; decide

theorem gate0_apply : k0_pay8 (word d) p (iota .tc S1024x32 32 [1] iota_S1024x32_d1_w32) a b (ix2 n 0)
    = gate (fun e => p (ix2 n e)) (a (ix2 n 0)) (b (ix2 n 0)) (expert d 0) := by
  pointwise [k0_pay8, k0_pay7, k0_pay6]
  rw [select_or, expert0]
  simp only [select_eq]
  rfl

theorem gate1_apply : k0_pay11 (k0_pay9 (F := Ideal) (word d) a b) (k0_pay10 (word d) p (iota .tc S1024x32 32 [1] iota_S1024x32_d1_w32) a b) (ix2 n 0)
    = gate (fun e => p (ix2 n e)) (a (ix2 n 0)) (b (ix2 n 0)) (expert d 1) := by
  pointwise [k0_pay11, k0_pay9, k0_pay10, k0_pay7, k0_pay6]
  rw [select_or, expert1]
  simp only [select_eq]
  rfl

theorem gate2_apply : k0_pay12 (word d) p (iota .tc S1024x32 32 [1] iota_S1024x32_d1_w32) a (k0_pay6 (F := Ideal) b)
      (k0_pay7 p (iota .tc S1024x32 32 [1] iota_S1024x32_d1_w32) a b) (ix2 n 0)
    = gate (fun e => p (ix2 n e)) (a (ix2 n 0)) (b (ix2 n 0)) (expert d 2) := by
  pointwise [k0_pay12, k0_pay7, k0_pay6]
  rw [select_or, expert2]
  simp only [select_eq]
  rfl

theorem gate3_apply : k0_pay13 (word d) p (iota .tc S1024x32 32 [1] iota_S1024x32_d1_w32) a (k0_pay6 (F := Ideal) b)
      (k0_pay7 p (iota .tc S1024x32 32 [1] iota_S1024x32_d1_w32) a b) (ix2 n 0)
    = gate (fun e => p (ix2 n e)) (a (ix2 n 0)) (b (ix2 n 0)) (expert d 3) := by
  pointwise [k0_pay13, k0_pay7, k0_pay6]
  rw [select_or, expert3]
  simp only [select_eq]
  rfl
end Gates

theorem pay1_apply (g0 g1 g2 g3 : FVec Ideal S1024x1 .f32) (x : FVec Ideal S1024x256 .f32) (w0 w1 w2 w3 : Vec Ideal S1x256x512 .f32)
    (n : Fin 1024) (f : Fin 512) :
    k0_pay1 g3 (k0_pay18 x) (k0_pay19 x g0 g1 (k0_pay14 w0) (k0_pay15 w1)) (k0_pay20 g2) (k0_pay16 w2) (k0_pay17 w3) (ix2 n f)
      = ∑ k : Fin 256, x (ix2 n k) * g0 (ix2 n 0) * w0 (ix3 0 k f) + ∑ k : Fin 256, x (ix2 n k) * g1 (ix2 n 0) * w1 (ix3 0 k f)
        + ∑ k : Fin 256, x (ix2 n k) * g2 (ix2 n 0) * w2 (ix3 0 k f) + ∑ k : Fin 256, x (ix2 n k) * g3 (ix2 n 0) * w3 (ix3 0 k f) := by
  pointwise [k0_pay1, k0_pay18, k0_pay19, k0_pay20, k0_pay14, k0_pay15, k0_pay16, k0_pay17, dot_S1024x256_S256x512_S1024x512_1_0_0_1_n_n]

/-! ## The loads of one slot, of one column -/

section Loads
variable (w : (cc0_stg3_0 : Ref sig .tc).ty.Contents (Elt Ideal)) (k : Fin 256) (f : Fin 512)

theorem slot0_apply : (wM.view.readAt (Elt Ideal) slot0.toLoadRect w : Vec Ideal S1x256x512 .f32) (ix3 0 k f) = w (ix3 0 k f) :=
  congrArg w (funext fun a => Fin.ext (by
    match a with
    | ⟨0, _⟩ => rfl
    | ⟨1, _⟩ => show 0 + 1 * k.val = k.val; omega
    | ⟨2, _⟩ => show 0 + 1 * f.val = f.val; omega))
theorem slot1_apply : (wM.view.readAt (Elt Ideal) slot1.toLoadRect w : Vec Ideal S1x256x512 .f32) (ix3 0 k f) = w (ix3 1 k f) :=
  congrArg w (funext fun a => Fin.ext (by
    match a with
    | ⟨0, _⟩ => rfl
    | ⟨1, _⟩ => show 0 + 1 * k.val = k.val; omega
    | ⟨2, _⟩ => show 0 + 1 * f.val = f.val; omega))
theorem slot2_apply : (wM.view.readAt (Elt Ideal) slot2.toLoadRect w : Vec Ideal S1x256x512 .f32) (ix3 0 k f) = w (ix3 2 k f) :=
  congrArg w (funext fun a => Fin.ext (by
    match a with
    | ⟨0, _⟩ => rfl
    | ⟨1, _⟩ => show 0 + 1 * k.val = k.val; omega
    | ⟨2, _⟩ => show 0 + 1 * f.val = f.val; omega))
theorem slot3_apply : (wM.view.readAt (Elt Ideal) slot3.toLoadRect w : Vec Ideal S1x256x512 .f32) (ix3 0 k f) = w (ix3 3 k f) :=
  congrArg w (funext fun a => Fin.ext (by
    match a with
    | ⟨0, _⟩ => rfl
    | ⟨1, _⟩ => show 0 + 1 * k.val = k.val; omega
    | ⟨2, _⟩ => show 0 + 1 * f.val = f.val; omega))
end Loads

section Columns
variable (c : (cc0_stg2_0 : Ref sig .tc).ty.Contents (Elt Ideal)) (n : Fin 1024)

theorem topA_apply : (topA c : Vec Ideal S1024x1 .i32) (ix2 n 0) = c (ix2 n 0) :=
  congrArg c (funext fun a => Fin.ext (by
    match a with
    | ⟨0, _⟩ => show 0 + 1 * n.val = n.val; omega
    | ⟨1, _⟩ => rfl))
theorem topB_apply : (topB c : Vec Ideal S1024x1 .i32) (ix2 n 0) = c (ix2 n 1) :=
  congrArg c (funext fun a => Fin.ext (by
    match a with
    | ⟨0, _⟩ => show 0 + 1 * n.val = n.val; omega
    | ⟨1, _⟩ => rfl))
end Columns

/-- A device's result, element by element. -/
theorem mix_apply (d : Dev nD) (x : Vec Ideal S1024x256 .f32) (r : Vec Ideal S256x32 .f32)
    (c : (cc0_stg2_0 : Ref sig .tc).ty.Contents (Elt Ideal)) (w : (cc0_stg3_0 : Ref sig .tc).ty.Contents (Elt Ideal))
    (n : Fin 1024) (f : Fin 512) : mix d x r c w (ix2 n f) = part d x r c w n f := by
  unfold mix
  have hp : (fun e => k0_pay4 x r (ix2 n e)) = prob x r n := funext fun e => pay4_apply x r n e
  have h5 : (k0_pay5 (F := Ideal) (topA c)) (ix2 n 0) = c (ix2 n 0) := by pointwise [k0_pay5]; exact topA_apply c n
  have h3 : k0_pay3 x = x := by funext j; pointwise [k0_pay3]
  rw [pay1_apply, gate0_apply, gate1_apply, gate2_apply, gate3_apply, hp, h5, topB_apply, h3]
  rw [Finset.sum_congr rfl fun k _ => congrArg _ (slot0_apply w k f), Finset.sum_congr rfl fun k _ => congrArg _ (slot1_apply w k f),
    Finset.sum_congr rfl fun k _ => congrArg _ (slot2_apply w k f), Finset.sum_congr rfl fun k _ => congrArg _ (slot3_apply w k f)]
  rfl

end Cert.KernelCxIdealRun

end
-- ==== Proof.Disproof.lean ====
/-
# The kernel's text does not compute the reference

The counterexample: every activation 1, the router's matrix 0, every token choosing experts 0 and 1, every entry of every
expert 1. The router's probabilities are then all alike, so experts 0 and 1 weigh one half each. Both live on device 0,
whose result is 256 in the first element; device 1 holds experts 4 to 7, chosen by no token, and its result is 0 there.
The reference's result is one array, and the claim asks that every device end with it: two devices that differ cannot.
The reference enters by its run alone.
-/
module

public import proofs.«01_k».proof.Defs
public import proofs.«01_k».proof.Proof.KernelCxIdealValue
public import proofs.«01_k».proof.Proof.Gen.ReferenceIdeal
public import proofs.«01_k».proof.Proof.Gen.ReferenceIdeal.Run

@[expose] public section

noncomputable section

namespace Cert.Disproof

open Cert.KernelCxIdeal Cert.KernelCxIdeal.Gen Cert.KernelCxIdealRun Cert.Mixture
open Idealize.ShloMosaic Idealize.ShloMosaic.TcCoe Idealize.SL.Sem

/-! ## The arrays of the counterexample -/

set_option maxRecDepth 4000 in
theorem ones_x : Cx_KernelCxIdeal.arg0_words = fun _ _ => 0x3F800000#32 := by
  have e0 : (![] : Fin 0 → BitVec 32) = fun _ => 0x3F800000#32 := funext fun i => i.elim0
  have e1 : (![] : Fin 0 → Fin 256 → BitVec 32) = fun _ _ => 0x3F800000#32 := funext fun i => i.elim0
  unfold Cx_KernelCxIdeal.arg0_words
  simp only [e0, e1, Matrix.vecCons_const]

set_option maxRecDepth 4000 in
theorem zeros_r : Cx_KernelCxIdeal.arg1_words = fun _ _ => 0x00000000#32 := by
  have e0 : (![] : Fin 0 → BitVec 32) = fun _ => 0x00000000#32 := funext fun i => i.elim0
  have e1 : (![] : Fin 0 → Fin 32 → BitVec 32) = fun _ _ => 0x00000000#32 := funext fun i => i.elim0
  unfold Cx_KernelCxIdeal.arg1_words
  simp only [e0, e1, Matrix.vecCons_const]

set_option maxRecDepth 4000 in
theorem ones_w : Cx_KernelCxIdeal.arg3_words = fun _ _ _ => 0x3F800000#32 := by
  have e0 : (![] : Fin 0 → BitVec 32) = fun _ => 0x3F800000#32 := funext fun i => i.elim0
  have e1 : (![] : Fin 0 → Fin 1 → BitVec 32) = fun _ _ => 0x3F800000#32 := funext fun i => i.elim0
  have e2 : (![] : Fin 0 → Fin 1 → Fin 1 → BitVec 32) = fun _ _ _ => 0x3F800000#32 := funext fun i => i.elim0
  unfold Cx_KernelCxIdeal.arg3_words
  simp only [e0, e1, e2, Matrix.vecCons_const]

/-- Of the choices, the first token's. -/
theorem choice0 : Cx_KernelCxIdeal.arg2 (ix2 (0 : Fin 1024) 0) = 0#32 ∧ Cx_KernelCxIdeal.arg2 (ix2 (0 : Fin 1024) 1) = 1#32 :=
  ⟨rfl, rfl⟩

/-! ## What the kernel finds in its arrays -/

section Found
variable (m : (ℓ : Loc nD τ sig) → Buf (Elt Ideal) ℓ) (c : Dev nD)

theorem V_x : V m c main_v1 = broadcastInDim S1024x256 ![0, 1] bcast_S1x256_S1024x256_0_1 (m ((c : Thread nD τ).loc main_arg0)) := by
  show StableHlo.after hostOps0 (fun b => m (c, b)) main_v1 = _
  rw [StableHlo.after_cons, StableHlo.after_cons, StableHlo.after_nil, StableHlo.unary_result_ne (h := by decide), StableHlo.unary_result']

theorem V_w : V m c main_v2 = broadcastInDim S4x256x512 ![0, 1, 2] bcast_S4x1x1_S4x256x512_0_1_2 (m ((c : Thread nD τ).loc main_arg3)) := by
  show StableHlo.after hostOps0 (fun b => m (c, b)) main_v2 = _
  rw [StableHlo.after_cons, StableHlo.after_cons, StableHlo.after_nil, StableHlo.unary_result', StableHlo.unary_result_ne (h := by decide)]

end Found

abbrev X : FVec Ideal Tokens .f32 := fun _ => 1
abbrev R : FVec Ideal Router .f32 := fun _ => 0
abbrev W : FVec Ideal Four .f32 := fun _ => 1

/-- The counterexample as the claim pins it. -/
abbrev Pinned (m : (ℓ : Loc nD τ sig) → Buf (Elt Ideal) ℓ) : Prop := ∀ c : Dev nD,
  m ((c : Thread nD τ).loc main_arg0) = Cx_KernelCxIdeal.arg0 (F := Ideal)
  ∧ m ((c : Thread nD τ).loc main_arg1) = Cx_KernelCxIdeal.arg1 (F := Ideal)
  ∧ m ((c : Thread nD τ).loc main_arg2) = Cx_KernelCxIdeal.arg2
  ∧ m ((c : Thread nD τ).loc main_arg3) = Layout.block ⟨3, ![4, 1, 1]⟩ ⟨3, ![32, 1, 1]⟩ 0 8 c (Cx_KernelCxIdeal.arg3 (F := Ideal))

section Pinned
variable (m : (ℓ : Loc nD τ sig) → Buf (Elt Ideal) ℓ) (h : Pinned m) (c : Dev nD)
include h

theorem found_x : xIn m c = X := by
  rw [xIn_eq]
  refine (V_x m c).trans ?_
  rw [(h c).1]
  funext i
  show Ideal.ofBits .f32 (Cx_KernelCxIdeal.arg0_words _ _) = 1
  rw [ones_x]
  exact Ideal.ofBits_one_f32

theorem found_r : rIn m c = R := by
  rw [rIn_eq]
  refine (V_main_arg1 m c).trans ?_
  rw [(h c).2.1]
  funext i
  show Ideal.ofBits .f32 (Cx_KernelCxIdeal.arg1_words _ _) = 0
  rw [zeros_r]
  exact Ideal.ofBits_zero_f32

theorem found_c : eIn m c = Cx_KernelCxIdeal.arg2 := by
  rw [eIn_eq]
  exact (V_main_arg2 m c).trans (h c).2.2.1

theorem found_w : wIn m c = W := by
  rw [wIn_eq]
  refine (V_w m c).trans ?_
  rw [(h c).2.2.2]
  funext i
  show Ideal.ofBits .f32 (Cx_KernelCxIdeal.arg3_words _ _ _) = 1
  rw [ones_w]
  exact Ideal.ofBits_one_f32

theorem out_elt : outArr m c (ix2 (0 : Fin 1024) (0 : Fin 512)) = part c X R Cx_KernelCxIdeal.arg2 W 0 0 := by
  rw [outArr_eq]
  unfold outAt
  rw [found_x m h, found_r m h, found_c m h, found_w m h]
  exact mix_apply c X R _ W 0 0

end Pinned

/-! ## The two elements -/

theorem score_zero (e : Fin 32) : score X R 0 e = 0 := by
  unfold score
  exact Finset.sum_eq_zero fun k _ => mul_zero _

/-- Every score is 0, so every expert has one probability, a positive real. -/
theorem top_zero : top X R 0 = 0 := by
  unfold top
  rw [show score X R 0 = fun _ => 0 from funext score_zero]
  refine le_antisymm ?_ ?_
  · rw [Finset.fold_max_le]
    exact ⟨by simp [Ideal.ofBits, Ideal.ieee], fun _ _ => le_refl _⟩
  · rw [Finset.le_fold_max]
    exact .inr ⟨0, Finset.mem_univ _, le_refl _⟩

theorem prob_const : prob X R 0 = fun _ => ((1 / 32 : ℝ) : EReal) := by
  funext e
  unfold prob
  simp only [score_zero, top_zero]
  have h1 : Ideal.exp ((0 : EReal) - 0) = ((1 : ℝ) : EReal) := by
    rw [sub_zero, ← EReal.coe_zero, Ideal.exp_coe, Real.exp_zero]
  rw [h1, Finset.sum_const, Finset.card_univ, Fintype.card_fin]
  have h32 : (32 : ℕ) • ((1 : ℝ) : EReal) = ((32 : ℝ) : EReal) := by
    rw [← EReal.coe_nsmul]; norm_num
  rw [h32, Ideal.div_coe (by norm_num), ← EReal.coe_mul]
  norm_num

theorem pick_const (q : EReal) (t : Fin 32) : pick (fun _ => q) (BitVec.ofNat 32 t.val) = q := by
  unfold pick
  rw [Finset.sum_eq_single t]
  · exact if_pos rfl
  · intro e _ he
    refine if_neg fun h => he (Fin.ext ?_)
    have := congrArg BitVec.toNat h
    rw [BitVec.toNat_ofNat, BitVec.toNat_ofNat, Nat.mod_eq_of_lt (by omega), Nat.mod_eq_of_lt (by omega)] at this
    exact this
  · exact fun h => absurd (Finset.mem_univ _) h

/-- A chosen expert weighs one half, -/
theorem gate_chosen (t : BitVec 32) (ht : t = 0#32 ∨ t = 1#32) :
    gate (fun _ => ((1 / 32 : ℝ) : EReal)) 0#32 1#32 t = ((1 / 2 : ℝ) : EReal) := by
  have h0 := pick_const ((1 / 32 : ℝ) : EReal) 0
  have h1 := pick_const ((1 / 32 : ℝ) : EReal) 1
  have hp : pick (fun _ => ((1 / 32 : ℝ) : EReal)) t = ((1 / 32 : ℝ) : EReal) := by
    rcases ht with rfl | rfl
    · exact h0
    · exact h1
  unfold gate
  rw [if_pos (ht.imp Eq.symm Eq.symm), hp, show (0#32 : BitVec 32) = BitVec.ofNat 32 (0 : Fin 32).val from rfl,
    show (1#32 : BitVec 32) = BitVec.ofNat 32 (1 : Fin 32).val from rfl, h0, h1, ← EReal.coe_add, Ideal.div_coe (by norm_num),
    ← EReal.coe_mul]
  norm_num

/-- any other nothing. -/
theorem gate_other (p : Fin 32 → EReal) (t : BitVec 32) (h : ¬ (0#32 = t ∨ 1#32 = t)) : gate p 0#32 1#32 t = 0 := if_neg h

theorem weight_at (d : Fin 8) (j : Fin 4) :
    weight d X R Cx_KernelCxIdeal.arg2 0 j = gate (fun _ => ((1 / 32 : ℝ) : EReal)) 0#32 1#32 (expert d j) := by
  unfold weight
  rw [choice0.1, choice0.2, prob_const]

theorem term_at (d : Fin 8) (j : Fin 4) (g : ℝ) (hg : weight d X R Cx_KernelCxIdeal.arg2 0 j = (g : EReal)) :
    term d X R Cx_KernelCxIdeal.arg2 W 0 0 j = ((256 * g : ℝ) : EReal) := by
  unfold term
  rw [hg]
  simp only [mul_one, one_mul]
  rw [Finset.sum_const, Finset.card_univ, Fintype.card_fin, ← EReal.coe_nsmul, nsmul_eq_mul]
  norm_num

theorem part_first : part 0 X R Cx_KernelCxIdeal.arg2 W 0 0 = ((256 : ℝ) : EReal) := by
  unfold part
  rw [term_at 0 0 (1 / 2) ((weight_at 0 0).trans (gate_chosen _ (.inl (by decide)))),
    term_at 0 1 (1 / 2) ((weight_at 0 1).trans (gate_chosen _ (.inr (by decide)))),
    term_at 0 2 0 ((weight_at 0 2).trans (gate_other _ _ (by decide))),
    term_at 0 3 0 ((weight_at 0 3).trans (gate_other _ _ (by decide))), ← EReal.coe_add, ← EReal.coe_add, ← EReal.coe_add]
  norm_num

theorem part_second : part 1 X R Cx_KernelCxIdeal.arg2 W 0 0 = ((0 : ℝ) : EReal) := by
  unfold part
  rw [term_at 1 0 0 ((weight_at 1 0).trans (gate_other _ _ (by decide))),
    term_at 1 1 0 ((weight_at 1 1).trans (gate_other _ _ (by decide))),
    term_at 1 2 0 ((weight_at 1 2).trans (gate_other _ _ (by decide))),
    term_at 1 3 0 ((weight_at 1 3).trans (gate_other _ _ (by decide))), ← EReal.coe_add, ← EReal.coe_add, ← EReal.coe_add]
  norm_num

/-! ## The disproof -/

theorem disproof : Cert.disproves_algebraic_KernelCxIdeal_ReferenceIdeal := by
  intro m g m' g' hcx _
  refine ⟨trivial, Cert.ReferenceIdeal.Value.res_main_v43 m' 0, ?_, ?_⟩
  · refine (θ_run defs _ _).mono (fun r h hall => ?_) (Cert.KernelCxIdealRun.run (F := Ideal) m g)
    have e : outArr m 0 = outArr m 1 := ((h.1 0).2.symm.trans (hall 0)).trans ((hall 1).symm.trans (h.1 1).2)
    have e' := congrFun e (ix2 (0 : Fin 1024) (0 : Fin 512))
    rw [out_elt m hcx, out_elt m hcx, part_first, part_second] at e'
    exact absurd (EReal.coe_eq_coe_iff.mp e') (by norm_num)
  · exact (θ_run Cert.ReferenceIdeal.defs _ _).mono (fun _ h => (h 0).1) (Cert.ReferenceIdeal.Value.run m' g')

end Cert.Disproof

end
-- ==== Proof.KernelIdealOutput.lean ====
/-
# `KernelIdeal`: what the result array holds at the end

The kernel has no grid: its one block of each window is the whole array, so the staged blocks are the arrays the region
finds, and the result array ends as the block the body wrote.
-/
module

public import proofs.«01_k».proof.Proof.KernelIdealLaunch

@[expose] public section

noncomputable section

namespace Cert.KernelIdealRun

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (c : Dev nD)

theorem read_win0 (f : Buf (Elt F) ((c : Thread nD τ).loc (Pipeline.arrRef spec0 0))) :
    (win0_0.blk (0 : Fin 1)).view.read (Elt F) f = f :=
  Memref.read_access_unit_zero (Elt F) (Pipeline.arrRef spec0 0)
    (funext fun a => by fin_cases a <;> decide) (fun a => by fin_cases a <;> decide) f
theorem read_win1 (f : Buf (Elt F) ((c : Thread nD τ).loc (Pipeline.arrRef spec0 1))) :
    (win0_1.blk (0 : Fin 1)).view.read (Elt F) f = f :=
  Memref.read_access_unit_zero (Elt F) (Pipeline.arrRef spec0 1)
    (funext fun a => by fin_cases a <;> decide) (fun a => by fin_cases a <;> decide) f
theorem read_win2 (f : Buf (Elt F) ((c : Thread nD τ).loc (Pipeline.arrRef spec0 2))) :
    (win0_2.blk (0 : Fin 1)).view.read (Elt F) f = f :=
  Memref.read_access_unit_zero (Elt F) (Pipeline.arrRef spec0 2)
    (funext fun a => by fin_cases a <;> decide) (fun a => by fin_cases a <;> decide) f
theorem read_win3 (f : Buf (Elt F) ((c : Thread nD τ).loc (Pipeline.arrRef spec0 3))) :
    (win0_3.blk (0 : Fin 1)).view.read (Elt F) f = f :=
  Memref.read_access_unit_zero (Elt F) (Pipeline.arrRef spec0 3)
    (funext fun a => by fin_cases a <;> decide) (fun a => by fin_cases a <;> decide) f
theorem read_win4 (f : Buf (Elt F) ((c : Thread nD τ).loc (Pipeline.arrRef spec0 4))) :
    (win0_4.blk (0 : Fin 1)).view.read (Elt F) f = f :=
  Memref.read_access_unit_zero (Elt F) (Pipeline.arrRef spec0 4)
    (funext fun a => by fin_cases a <;> decide) (fun a => by fin_cases a <;> decide) f

theorem xIn_eq : xIn m c = V m c (Pipeline.arrRef spec0 0) := read_win0 c _
theorem rIn_eq : rIn m c = V m c (Pipeline.arrRef spec0 1) := read_win1 c _
theorem eIn_eq : eIn m c = V m c (Pipeline.arrRef spec0 2) := read_win2 c _
theorem wIn_eq : wIn m c = V m c (Pipeline.arrRef spec0 3) := read_win3 c _

theorem flushed_out : (dats m 0 c).flushed 4 t0_0 = outAt m c := by
  show (cfg0.win 4).cut _ ((dats m 0 c).after 4 t0_0) = _
  exact funext fun _ => rfl

theorem outArr_eq : outArr m c = outAt m c := by
  have hw : ((cfg0.win 4).blk t0_0).view.read (Elt F) ((dats m 0 c).arrAt 4 cfg0.N) = (dats m 0 c).flushed 4 t0_0 := by
    rw [show cfg0.N = t0_0.val + 1 from rfl, (dats m 0 c).arrAt_succ (4 : Fin 5) t0_0, flush0_4, if_pos rfl]
    exact View.read_write_univ _ _
  rw [flushed_out] at hw
  exact (read_win4 c _).symm.trans hw

end Cert.KernelIdealRun

end
-- ==== Proof.KernelIdealValue.lean ====
/-
# `KernelIdeal`: the result in plain sums

A device's result at full size is computed by the same text as at the counterexample's shapes, so its elements are
`Cert.Mixture.part` too.
-/
module

public import proofs.«01_k».proof.Proof.KernelIdealOutput
public import proofs.«01_k».proof.Proof.KernelCxIdealValue

@[expose] public section

noncomputable section

namespace Cert.KernelIdealRun

open Cert.KernelIdeal Cert.KernelIdeal.Gen Cert.Mixture
open Idealize.ShloMosaic Idealize.ShloMosaic.TcCoe Idealize.SL.Sem

variable (d : Dev nD) (x : Vec Ideal S1024x256 .f32) (r : Vec Ideal S256x32 .f32)
  (c : (cc0_stg2_0 : Ref sig .tc).ty.Contents (Elt Ideal)) (w : (cc0_stg3_0 : Ref sig .tc).ty.Contents (Elt Ideal))

theorem mix_same : mix d x r c w = Cert.KernelCxIdealRun.mix d x r c w := by
  with_unfolding_all rfl

theorem mix_apply (n : Fin 1024) (f : Fin 512) : mix d x r c w (ix2 n f) = part d x r c w n f := by
  rw [mix_same]
  exact Cert.KernelCxIdealRun.mix_apply d x r c w n f

end Cert.KernelIdealRun

end
-- ==== Proof.Routed.lean ====
/-
# The precondition, in plain words

`routed` holds of a device's arrays when every activation and every entry of the router's matrix is finite and each token's
two experts are two different numbers below 32.
-/
module

public import proofs.«01_k».proof.Pre_routed_KernelIdeal
public import proofs.«01_k».proof.Proof.Gen.Pre_routed_KernelIdeal
public import proofs.«01_k».proof.Proof.Mixture
public import Idealize.ShloMosaic.Lib.StableHlo.Predicate

@[expose] public section

noncomputable section

namespace Cert.Routed

open Cert.Pre_routed_KernelIdeal Cert.Pre_routed_KernelIdeal.Facts Cert.Mixture
open Idealize.ShloMosaic

/-- What `routed` says of a token's two choices. -/
def two (a b : BitVec 32) : BitVec 1 :=
  IntOp.andi (IntOp.andi (IntOp.andi (IntOp.andi (IntOp.cmpi .sge a 0#32) (IntOp.cmpi .slt a 32#32)) (IntOp.cmpi .sge b 0#32))
    (IntOp.cmpi .slt b 32#32)) (IntOp.cmpi .ne a b)

/-- What it says of a number. -/
def bounded (v : EReal) : BitVec 1 := Ideal.cmp .olt (max v (-v)) (Ideal.ofBits .f32 0x7F800000#32)

variable (x : FVec Ideal Tokens .f32) (r : FVec Ideal Router .f32) (c : IVec Choice 32) (w : FVec Ideal Four .f32)

theorem fn_apply (n : Fin 1024) (k : Fin 256) (e : Fin 32) : fn (F := Ideal) x r c w (ix3 n k e)
    = IntOp.andi (IntOp.andi (bounded (x (ix2 n k))) (bounded (r (ix2 k e)))) (two (c (ix2 n 0)) (c (ix2 n 1))) := by
  pointwise [fn, fn_part1]
  rfl

theorem andi_one {a b : BitVec 1} (h : IntOp.andi a b = 1#1) : a = 1#1 ∧ b = 1#1 := by
  revert a b; decide

theorem real_of_bounded {v : EReal} (h : bounded v = 1#1) : ∃ t : ℝ, v = (t : EReal) := by
  have htop : Ideal.ofBits .f32 0x7F800000#32 = ⊤ := by simp [Ideal.ofBits, Ideal.ieee]
  have hlt : max v (-v) < ⊤ := by
    unfold bounded at h
    rw [htop] at h
    exact of_decide_eq_true ((StableHlo.Predicate.ofBool_eq_one_iff _).mp h)
  induction v with
  | bot => exact absurd hlt (by simp)
  | top => exact absurd hlt (by simp)
  | coe t => exact ⟨t, rfl⟩

/-- A word that is at least 0 and below 32, read signed. -/
theorem small_of_range {t : BitVec 32} (h0 : IntOp.cmpi .sge t 0#32 = 1#1) (h1 : IntOp.cmpi .slt t 32#32 = 1#1) : t.toNat < 32 := by
  have h0' : BitVec.sle 0#32 t = true := (StableHlo.Predicate.ofBool_eq_one_iff _).mp h0
  have h1' : BitVec.slt t 32#32 = true := (StableHlo.Predicate.ofBool_eq_one_iff _).mp h1
  simp only [BitVec.sle, BitVec.slt, decide_eq_true_eq] at h0' h1'
  have e := BitVec.toInt_eq_toNat_cond t
  have l := t.isLt
  rw [show (0#32 : BitVec 32).toInt = 0 from by decide] at h0'
  rw [show (32#32 : BitVec 32).toInt = 32 from by decide] at h1'
  split at e <;> omega

theorem two_spec {a b : BitVec 32} (h : two a b = 1#1) : a.toNat < 32 ∧ b.toNat < 32 ∧ a ≠ b := by
  obtain ⟨h, hne⟩ := andi_one h
  obtain ⟨h, hb⟩ := andi_one h
  obtain ⟨h, hb0⟩ := andi_one h
  obtain ⟨ha0, ha⟩ := andi_one h
  refine ⟨small_of_range ha0 ha, small_of_range hb0 hb, fun e => ?_⟩
  subst e
  have : (a != a) = true := (StableHlo.Predicate.ofBool_eq_one_iff _).mp hne
  simp at this

variable {x r c w} (h : fn (F := Ideal) x r c w = fun _ => 1#1)
include h

theorem real_x (n : Fin 1024) (k : Fin 256) : ∃ t : ℝ, x (ix2 n k) = (t : EReal) :=
  real_of_bounded (andi_one (andi_one ((fn_apply x r c w n k 0).symm.trans (congrFun h _))).1).1

theorem real_r (k : Fin 256) (e : Fin 32) : ∃ t : ℝ, r (ix2 k e) = (t : EReal) :=
  real_of_bounded (andi_one (andi_one ((fn_apply x r c w 0 k e).symm.trans (congrFun h _))).1).2

theorem choices (n : Fin 1024) : (c (ix2 n 0)).toNat < 32 ∧ (c (ix2 n 1)).toNat < 32 ∧ c (ix2 n 0) ≠ c (ix2 n 1) :=
  two_spec (andi_one ((fn_apply x r c w n 0 0).symm.trans (congrFun h _))).2

end Cert.Routed

end
-- ==== Proof.Gates.lean ====
/-
# The gates of a token that chose two different experts

With finite activations and a finite router the scores are real, so each probability is a positive real, and so is the sum of
two. A gate is then a nonnegative real, which may be taken out of a sum over the activations; and a device's four terms are
those of the two chosen experts that it owns.
-/
module

public import proofs.«01_k».proof.Proof.Mixture

@[expose] public section

noncomputable section

namespace Cert.Mixture

open Idealize.ShloMosaic

/-! ## Sums of reals inside the extended reals -/

theorem sum_coe {ι : Type} [Fintype ι] (g : ι → ℝ) : ∑ i, (g i : EReal) = ((∑ i, g i : ℝ) : EReal) := by
  classical
  induction (Finset.univ : Finset ι) using Finset.induction_on with
  | empty => simp
  | insert a s ha ih => rw [Finset.sum_insert ha, Finset.sum_insert ha, ih, EReal.coe_add]

/-- A nonnegative real may be taken out of a sum, whatever the terms. -/
theorem mul_sum_coe {ι : Type} [Fintype ι] (g : ℝ) (hg : 0 ≤ g) (y : ι → EReal) : ∑ i, (g : EReal) * y i = g * ∑ i, y i := by
  classical
  induction (Finset.univ : Finset ι) using Finset.induction_on with
  | empty => simp
  | insert a s ha ih =>
    rw [Finset.sum_insert ha, Finset.sum_insert ha, ih,
      EReal.left_distrib_of_nonneg_of_ne_top (EReal.coe_nonneg.mpr hg) (EReal.coe_ne_top g)]

/-! ## The softmax of real scores -/

section Softmax
variable {x : FVec Ideal Tokens .f32} {r : FVec Ideal Router .f32} {n : Fin 1024}
variable (hx : ∀ k, ∃ t : ℝ, x (ix2 n k) = (t : EReal)) (hr : ∀ k e, ∃ t : ℝ, r (ix2 k e) = (t : EReal))
include hx hr

theorem score_real (e : Fin 32) : ∃ t : ℝ, score x r n e = (t : EReal) := by
  choose X hX using hx
  choose R hR using hr
  refine ⟨∑ k, X k * R k e, ?_⟩
  rw [← sum_coe]
  exact Finset.sum_congr rfl fun k _ => by rw [hX, hR, EReal.coe_mul]

theorem top_real : ∃ t : ℝ, top x r n = (t : EReal) := by
  have hs := score_real hx hr
  have hbot : Ideal.ofBits .f32 4286578688#32 = ⊥ := by simp [Ideal.ofBits, Ideal.ieee]
  have hlt : top x r n < ⊤ := by
    unfold top
    rw [Finset.fold_max_lt]
    refine ⟨by rw [hbot]; exact bot_lt_top, fun e _ => ?_⟩
    obtain ⟨t, ht⟩ := hs e
    rw [ht]
    exact EReal.coe_lt_top t
  have hgt : ⊥ < top x r n := by
    unfold top
    rw [Finset.lt_fold_max]
    refine .inr ⟨0, Finset.mem_univ _, ?_⟩
    obtain ⟨t, ht⟩ := hs 0
    rw [ht]
    exact EReal.bot_lt_coe t
  exact ⟨(top x r n).toReal, (EReal.coe_toReal hlt.ne hgt.ne').symm⟩

/-- A probability is a positive real. -/
theorem prob_pos (e : Fin 32) : ∃ t : ℝ, 0 < t ∧ prob x r n e = (t : EReal) := by
  choose s hs using score_real hx hr
  obtain ⟨t, ht⟩ := top_real hx hr
  have hexp : ∀ e', Ideal.exp (score x r n e' - top x r n) = ((Real.exp (s e' - t) : ℝ) : EReal) := fun e' => by
    rw [hs, ht, ← EReal.coe_sub, Ideal.exp_coe]
  have hsum : 0 < ∑ e' : Fin 32, Real.exp (s e' - t) := Finset.sum_pos (fun _ _ => Real.exp_pos _) ⟨0, Finset.mem_univ _⟩
  refine ⟨Real.exp (s e - t) * (1 / ∑ e' : Fin 32, Real.exp (s e' - t)), by positivity, ?_⟩
  unfold prob
  simp only [hexp]
  rw [sum_coe, Ideal.div_coe hsum.ne', ← EReal.coe_mul]

end Softmax

/-! ## The two chosen experts -/

/-- The probability of the expert that a word names is that expert's. -/
theorem pick_word (p : Fin 32 → EReal) (a : Fin 32) : pick p (BitVec.ofNat 32 a.val) = p a := by
  unfold pick
  rw [Finset.sum_eq_single a]
  · exact if_pos rfl
  · intro e _ he
    refine if_neg fun h => he (Fin.ext ?_)
    have := congrArg BitVec.toNat h
    rw [BitVec.toNat_ofNat, BitVec.toNat_ofNat, Nat.mod_eq_of_lt (by omega), Nat.mod_eq_of_lt (by omega)] at this
    exact this
  · exact fun h => absurd (Finset.mem_univ _) h

theorem word_eq_expert (a : Fin 32) (d : Fin 8) (j : Fin 4) : BitVec.ofNat 32 a.val = expert d j ↔ a.val = 4 * d.val + j.val := by
  constructor
  · intro h
    have := congrArg BitVec.toNat h
    unfold expert at this
    rw [BitVec.toNat_ofNat, BitVec.toNat_ofNat, Nat.mod_eq_of_lt (by omega), Nat.mod_eq_of_lt (by omega)] at this
    exact this
  · intro h
    unfold expert
    rw [h]

/-- Expert `a`'s share of the two probabilities `p a` and `p b`. -/
def ratio (p : Fin 32 → EReal) (a b t : Fin 32) : EReal := Ideal.div (p t) (p a + p b)

theorem ratio_real {p : Fin 32 → EReal} (hp : ∀ e, ∃ t : ℝ, 0 < t ∧ p e = (t : EReal)) (a b t : Fin 32) :
    ∃ g : ℝ, 0 ≤ g ∧ ratio p a b t = (g : EReal) := by
  choose q hq hpq using hp
  have h : 0 < q a + q b := add_pos (hq a) (hq b)
  refine ⟨q t * (1 / (q a + q b)), mul_nonneg (hq t).le (by positivity), ?_⟩
  unfold ratio
  rw [hpq, hpq, hpq, ← EReal.coe_add, Ideal.div_coe h.ne', ← EReal.coe_mul]

/-- The gate of a device's slot: the share of the chosen expert that lives there, or nothing. -/
theorem gate_word (p : Fin 32 → EReal) {a b : Fin 32} (hab : a ≠ b) (d : Fin 8) (j : Fin 4) :
    gate p (BitVec.ofNat 32 a.val) (BitVec.ofNat 32 b.val) (expert d j)
      = if a.val = 4 * d.val + j.val then ratio p a b a else if b.val = 4 * d.val + j.val then ratio p a b b else 0 := by
  unfold gate
  rw [pick_word, pick_word]
  by_cases ha : a.val = 4 * d.val + j.val
  · rw [if_pos (.inl ((word_eq_expert a d j).mpr ha)), if_pos ha, ← (word_eq_expert a d j).mpr ha, pick_word]; rfl
  · rw [if_neg ha]
    by_cases hb : b.val = 4 * d.val + j.val
    · rw [if_pos (.inr ((word_eq_expert b d j).mpr hb)), if_pos hb, ← (word_eq_expert b d j).mpr hb, pick_word]; rfl
    · rw [if_neg hb, if_neg (by rintro (h | h); exacts [ha ((word_eq_expert a d j).mp h), hb ((word_eq_expert b d j).mp h)])]

/-! ## A device's part -/

abbrev All : Shape := ⟨3, ![32, 256, 512]⟩

section Part
variable (x : FVec Ideal Tokens .f32) (W : FVec Ideal All .f32) (n : Fin 1024) (f : Fin 512)

/-- What expert `e` makes of a token. -/
def made (e : Fin 32) : EReal := ∑ k : Fin 256, x (ix2 n k) * W (ix3 e k f)

/-- What the token's choice `t`, of `a` and `b`, adds on device `d`: nothing when the device does not own the expert. -/
def added (p : Fin 32 → EReal) (a b t : Fin 32) (d : Fin 8) : EReal :=
  if 4 * d.val ≤ t.val ∧ t.val < 4 * d.val + 4 then ratio p a b t * made x W n f t else 0

/-- The `j`-th of a device's experts. -/
def owned (d : Fin 8) (j : Fin 4) : Fin 32 := ⟨4 * d.val + j.val, by omega⟩

variable {x W n f}
variable {r : FVec Ideal Router .f32} {c : IVec Choice 32} {w : FVec Ideal Four .f32} {d : Fin 8} {a b : Fin 32}

/-- At most one of a device's four slots holds an expert `t`. -/
theorem four_slots (t : Fin 32) (d : Fin 8) (y : EReal) :
    (if t.val = 4 * d.val + (0 : Fin 4).val then y else 0) + (if t.val = 4 * d.val + (1 : Fin 4).val then y else 0)
      + (if t.val = 4 * d.val + (2 : Fin 4).val then y else 0) + (if t.val = 4 * d.val + (3 : Fin 4).val then y else 0)
      = if 4 * d.val ≤ t.val ∧ t.val < 4 * d.val + 4 then y else 0 := by
  show (if t.val = 4 * d.val + 0 then y else 0) + (if t.val = 4 * d.val + 1 then y else 0)
      + (if t.val = 4 * d.val + 2 then y else 0) + (if t.val = 4 * d.val + 3 then y else 0) = _
  by_cases h : 4 * d.val ≤ t.val ∧ t.val < 4 * d.val + 4
  · rw [if_pos h]
    obtain h0 | h1 | h2 | h3 : t.val = 4 * d.val + 0 ∨ t.val = 4 * d.val + 1 ∨ t.val = 4 * d.val + 2 ∨ t.val = 4 * d.val + 3 := by
      omega
    · rw [if_pos h0, if_neg (by omega), if_neg (by omega), if_neg (by omega), add_zero, add_zero, add_zero]
    · rw [if_neg (by omega), if_pos h1, if_neg (by omega), if_neg (by omega), zero_add, add_zero, add_zero]
    · rw [if_neg (by omega), if_neg (by omega), if_pos h2, if_neg (by omega), zero_add, zero_add, add_zero]
    · rw [if_neg (by omega), if_neg (by omega), if_neg (by omega), if_pos h3, zero_add, zero_add, zero_add]
  · rw [if_neg h, if_neg (by omega), if_neg (by omega), if_neg (by omega), if_neg (by omega), add_zero, add_zero, add_zero]

variable (hx : ∀ k, ∃ t : ℝ, x (ix2 n k) = (t : EReal)) (hr : ∀ k e, ∃ t : ℝ, r (ix2 k e) = (t : EReal))
variable (ha : c (ix2 n 0) = BitVec.ofNat 32 a.val) (hb : c (ix2 n 1) = BitVec.ofNat 32 b.val) (hab : a ≠ b)
variable (hw : ∀ j k, w (ix3 j k f) = W (ix3 (owned d j) k f))
include hx hr ha hb hab hw

theorem term_eq (j : Fin 4) : term d x r c w n f j
    = (if a.val = 4 * d.val + j.val then ratio (prob x r n) a b a * made x W n f a else 0)
      + (if b.val = 4 * d.val + j.val then ratio (prob x r n) a b b * made x W n f b else 0) := by
  have out : ∀ t : Fin 32, t.val = 4 * d.val + j.val →
      ∑ k : Fin 256, x (ix2 n k) * ratio (prob x r n) a b t * w (ix3 j k f) = ratio (prob x r n) a b t * made x W n f t := by
    intro t ht
    obtain ⟨g, hg, e⟩ := ratio_real (prob_pos hx hr) a b t
    rw [e]
    unfold made
    rw [← mul_sum_coe g hg]
    refine Finset.sum_congr rfl fun k _ => ?_
    rw [hw, show owned d j = t from Fin.ext ht.symm, mul_comm (x (ix2 n k)), mul_assoc]
  unfold term weight
  rw [ha, hb, gate_word _ hab]
  by_cases h : a.val = 4 * d.val + j.val
  · have h' : b.val ≠ 4 * d.val + j.val := fun e => hab (Fin.ext (h.trans e.symm))
    rw [if_pos h, if_pos h, if_neg h', add_zero]
    exact out a h
  · rw [if_neg h, if_neg h, zero_add]
    by_cases h' : b.val = 4 * d.val + j.val
    · rw [if_pos h', if_pos h']
      exact out b h'
    · rw [if_neg h', if_neg h']
      exact Finset.sum_eq_zero fun k _ => by rw [mul_zero, zero_mul]

theorem part_eq : part d x r c w n f = added x W n f (prob x r n) a b a d + added x W n f (prob x r n) a b b d := by
  unfold part added
  rw [term_eq hx hr ha hb hab hw, term_eq hx hr ha hb hab hw, term_eq hx hr ha hb hab hw, term_eq hx hr ha hb hab hw,
    ← four_slots a d, ← four_slots b d]
  abel

end Part

end Cert.Mixture

end
-- ==== Proof.ShareValue.lean ====
/-
# `share`, read at an index

The result of `share` as its pieces: the router's probabilities, each token's two of them, the rows of experts the two
choices name, and which of the eight blocks owns which choice. For choices below 32 each lookup reads the entry named, and an
element of block `d` is what the two choices add on device `d`.
-/
module

public import proofs.«01_k».proof.Proof.Gates
public import proofs.«01_k».proof.Proof.Gen.ShareIdeal
public import proofs.«01_k».proof.Proof.Gen.ShareIdeal.Run
public import Idealize.ShloMosaic.Lib.ReduceAll
public import Idealize.ShloMosaic.Lib.StableHlo.Predicate

@[expose] public section

noncomputable section

namespace Cert.ShareIdealRun

open Cert.ShareIdeal Cert.ShareIdeal.Gen Cert.Mixture
open Idealize.ShloMosaic Idealize.ShloMosaic.TcCoe Idealize.SL.Sem

/-! ## The pieces -/

def scores (x : FVec Ideal S1024x256 .f32) (r : FVec Ideal S256x32 .f32) : FVec Ideal S1024x32 .f32 :=
  Host.dotGeneral dot_S1024x256_S256x32_S1024x32_1_0_0_1_n_n none x r

def exps (x : FVec Ideal S1024x256 .f32) (r : FVec Ideal S256x32 .f32) : FVec Ideal S1024x32 .f32 :=
  Host.exp (subf (scores x r) (broadcastInDim S1024x32 ![0, 1] bcast_S1024x1_S1024x32_0_1 (broadcastInDim S1024x1 ![0] bcast_S1024_S1024x1_0
    (Host.reduce FloatOps.maximumf (scores x r) (constant S_ .f32 0xFF800000#32) reducesTo_S1024x32_S1024_d1 h_S_))))

def probs (x : FVec Ideal S1024x256 .f32) (r : FVec Ideal S256x32 .f32) : FVec Ideal S1024x32 .f32 :=
  Host.divf (exps x r) (broadcastInDim S1024x32 ![0, 1] bcast_S1024x1_S1024x32_0_1 (broadcastInDim S1024x1 ![0] bcast_S1024_S1024x1_0
    (Host.reduceAdd (exps x r) (constant S_ .f32 0x00000000#32) reducesTo_S1024x32_S1024_d1 h_S_)))

def colA (c : IVec S1024x2 32) : IVec S1024x1 32 := extractStridedSlice S1024x1 ![0, 0] c slices_S1024x2_S1024x1_0_0
def colB (c : IVec S1024x2 32) : IVec S1024x1 32 := extractStridedSlice S1024x1 ![0, 1] c slices_S1024x2_S1024x1_0_1
def flat (a : IVec S1024x1 32) : IVec S1024 32 := shapeCast _ a shapeCasts_S1024x1_S1024

/-- A column of choices as a lookup along the experts takes it. -/
def places (a : IVec S1024x1 32) : IVec S1024x1x1 32 :=
  shapeCast _ (select (cmpi .slt a (broadcastInDim S1024x1 ![] bcast_S_S1024x1 (constantI S_ 32 0#32)))
    (addi a (broadcastInDim S1024x1 ![] bcast_S_S1024x1 (constantI S_ 32 32#32))) a) shapeCasts_S1024x1_S1024x1x1

def inside (a : IVec S1024x1 32) : IVec S1024x1x1 1 :=
  andi (cmpi .sge (places a) (broadcastInDim S1024x1x1 ![] bcast_S_S1024x1x1 (constantI S_ 32 0#32)))
    (cmpi .sle (places a) (broadcastInDim S1024x1x1 ![0, 1, 2] bcast_S1x1x1_S1024x1x1_0_1_2
      (broadcastInDim S1x1x1 ![2] bcast_S1_S1x1x1_2 (constantI S1 32 31#32))))

def taken (p : FVec Ideal S1024x32 .f32) (a : IVec S1024x1 32) : FVec Ideal S1024x1 .f32 :=
  select (Host.reduce IntOp.andi (inside a) (constantI S_ 1 1#1) reducesTo_S1024x1x1_S1024x1_d2 h_S_)
    (Host.gather gather_S1024x32_S1024x1x1_S1024x1_n_1_0_0_1_2_11 p (places a))
    (broadcastInDim S1024x1 ![] bcast_S_S1024x1 (constant S_ .f32 0x7FC00000#32))

/-- A list of choices as a lookup of whole experts takes it. -/
def names (v : IVec S1024 32) : IVec S1024x1 32 :=
  broadcastInDim S1024x1 ![0] bcast_S1024_S1024x1_0 (select (cmpi .slt v (broadcastInDim S1024 ![] bcast_S_S1024 (constantI S_ 32 0#32)))
    (addi v (broadcastInDim S1024 ![] bcast_S_S1024 (constantI S_ 32 32#32))) v)

def rows (W : FVec Ideal S32x256x512 .f32) (v : IVec S1024 32) : FVec Ideal S1024x256x512 .f32 :=
  Host.gather gather_S32x256x512_S1024x1_S1024x256x512_12_0_n_n_0_1_1256512 W (names v)

/-- A choice's product, weighed by its gate, one row per token. -/
def weighed (x : FVec Ideal S1024x256 .f32) (g s : FVec Ideal S1024x1 .f32) (u : FVec Ideal S1024x256x512 .f32) : FVec Ideal S1024x512 .f32 :=
  mulf (broadcastInDim S1024x512 ![0, 1] bcast_S1024x1_S1024x512_0_1 (Host.divf g s))
    (Host.dotGeneral dot_S1024x256_S1024x256x512_S1024x512_1_1_n_2_0_0 none x u)

def firsts : IVec S8x1 32 :=
  muli (broadcastInDim S8x1 ![] bcast_S_S8x1 (constantI S_ 32 4#32)) (broadcastInDim S8x1 ![0] bcast_S8_S8x1_0 (iotaInDim S8 32 0))

/-- Which of the eight blocks owns each token's choice. -/
def owns (v : IVec S1024 32) : IVec S8x1024 1 :=
  andi (cmpi .sle (broadcastInDim S8x1024 ![0, 1] bcast_S8x1_S8x1024_0_1 firsts)
      (broadcastInDim S8x1024 ![0, 1] bcast_S1x1024_S8x1024_0_1 (broadcastInDim S1x1024 ![1] bcast_S1024_S1x1024_1 v)))
    (cmpi .slt (broadcastInDim S8x1024 ![0, 1] bcast_S1x1024_S8x1024_0_1 (broadcastInDim S1x1024 ![1] bcast_S1024_S1x1024_1 v))
      (broadcastInDim S8x1024 ![0, 1] bcast_S8x1_S8x1024_0_1 (addi firsts (broadcastInDim S8x1 ![] bcast_S_S8x1 (constantI S_ 32 4#32)))))

def handed (v : IVec S1024 32) (y : FVec Ideal S1024x512 .f32) : FVec Ideal S8x1024x512 .f32 :=
  select (broadcastInDim S8x1024x512 ![0, 1, 2] bcast_S8x1024x1_S8x1024x512_0_1_2 (broadcastInDim S8x1024x1 ![0, 1] bcast_S8x1024_S8x1024x1_0_1 (owns v)))
    (broadcastInDim S8x1024x512 ![0, 1, 2] bcast_S1x1024x512_S8x1024x512_0_1_2 (broadcastInDim S1x1024x512 ![1, 2] bcast_S1024x512_S1x1024x512_1_2 y))
    (broadcastInDim S8x1024x512 ![] bcast_S_S8x1024x512 (id (constant S_ .f32 0x00000000#32)))

section Whole
variable (x : FVec Ideal S1024x256 .f32) (r : FVec Ideal S256x32 .f32) (c : IVec S1024x2 32) (W : FVec Ideal S32x256x512 .f32)

def gates : FVec Ideal S1024x1 .f32 := addf (taken (probs x r) (colA c)) (taken (probs x r) (colB c))

def whole : FVec Ideal S8192x512 .f32 :=
  shapeCast _ (addf (handed (flat (colA c)) (weighed x (taken (probs x r) (colA c)) (gates x r c) (rows W (flat (colA c)))))
    (handed (flat (colB c)) (weighed x (taken (probs x r) (colB c)) (gates x r c) (rows W (flat (colB c)))))) shapeCasts_S8x1024x512_S8192x512
end Whole

theorem res_eq (m : (ℓ : Loc nD τ sig) → Buf (Elt Ideal) ℓ) (c : Dev nD) : Cert.ShareIdeal.Value.res_main_v74 m c
    = whole (m ((c.tc : Thread nD τ).loc main_arg0)) (m ((c.tc : Thread nD τ).loc main_arg1)) (m ((c.tc : Thread nD τ).loc main_arg2))
        (m ((c.tc : Thread nD τ).loc main_arg3)) := by
  unfold Cert.ShareIdeal.Value.res_main_v74
  rfl

/-! ## The pieces at an index -/

theorem probs_apply (x : FVec Ideal Tokens .f32) (r : FVec Ideal Router .f32) (n : Fin 1024) (e : Fin 32) :
    probs x r (ix2 n e) = prob x r n e := by
  pointwise [probs, exps, scores, dot_S1024x256_S256x32_S1024x32_1_0_0_1_n_n]
  rfl

theorem flatA_apply (c : IVec Choice 32) (n : Fin 1024) : flat (colA c) (ix1 n) = c (ix2 n 0) := by
  pointwise [flat, colA]
theorem flatB_apply (c : IVec Choice 32) (n : Fin 1024) : flat (colB c) (ix1 n) = c (ix2 n 1) := by
  pointwise [flat, colB]
theorem colA_apply (c : IVec Choice 32) (n : Fin 1024) : colA c (ix2 n 0) = c (ix2 n 0) := by
  pointwise [colA]
theorem colB_apply (c : IVec Choice 32) (n : Fin 1024) : colB c (ix2 n 0) = c (ix2 n 1) := by
  pointwise [colB]

end Cert.ShareIdealRun

end
-- ==== Proof.ShareLookup.lean ====
/-
# The lookups of `share`

A choice below 32 is looked up as it is: it is not negative, so it is not moved, and it is inside, so the entry read is kept.
The probability looked up is the chosen expert's, the rows looked up are its matrix, and a block owns a choice exactly when
the chosen expert is one of the block's four.
-/
module

public import proofs.«01_k».proof.Proof.ShareValue

@[expose] public section

noncomputable section

namespace Cert.ShareIdealRun

open Cert.ShareIdeal Cert.ShareIdeal.Gen Cert.Mixture
open Idealize.ShloMosaic Idealize.ShloMosaic.TcCoe Idealize.SL.Sem

/-! ## Words below 32 -/

/-- The choice of expert `e`, as a word. -/
abbrev word (e : Fin 32) : BitVec 32 := BitVec.ofNat 32 e.val

theorem word_toInt (e : Fin 32) : (word e).toInt = e.val := StableHlo.Predicate.toInt_ofNat_small _ (by omega)

/-- A choice is not moved by the wrap of a negative one. -/
theorem wrap_word (e : Fin 32) : Scalar.select (IntOp.cmpi .slt (word e) 0#32) (IntOp.addi (word e) 32#32) (word e) = word e := by
  revert e; decide
theorem inside_word (e : Fin 32) : IntOp.andi (IntOp.cmpi .sge (word e) 0#32) (IntOp.cmpi .sle (word e) 31#32) = 1#1 := by
  revert e; decide
theorem owns_word (e : Fin 32) (d : Fin 8) :
    IntOp.andi (IntOp.cmpi .sle (IntOp.muli 4#32 (BitVec.ofNat 32 d.val)) (word e))
      (IntOp.cmpi .slt (word e) (IntOp.addi (IntOp.muli 4#32 (BitVec.ofNat 32 d.val)) 4#32))
      = if 4 * d.val ≤ e.val ∧ e.val < 4 * d.val + 4 then 1#1 else 0#1 := by
  revert e d; decide

/-! ## The two gathers -/

/-- A lookup along the experts, one per token. -/
theorem gather_place (p : FVec Ideal S1024x32 .f32) (i : IVec S1024x1x1 32) (n : Fin 1024) (e : Fin 32) (h : i (ix3 n 0 0) = word e) :
    Host.gather gather_S1024x32_S1024x1x1_S1024x1_n_1_0_0_1_2_11 p i (ix2 n 0) = p (ix2 n e) := by
  unfold Host.gather
  refine congrArg p (funext fun a => Fin.ext ?_)
  show gather_S1024x32_S1024x1x1_S1024x1_n_1_0_0_1_2_11.start (ix2 n 0) i a
    + gather_S1024x32_S1024x1x1_S1024x1_n_1_0_0_1_2_11.batchCoord (ix2 n 0) a
    + gather_S1024x32_S1024x1x1_S1024x1_n_1_0_0_1_2_11.offCoord (ix2 n 0) a = _
  obtain rfl | rfl : a = 0 ∨ a = 1 := by
    match a with
    | ⟨0, _⟩ => exact .inl rfl
    | ⟨1, _⟩ => exact .inr rfl
  · rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ gather_S1024x32_S1024x1x1_S1024x1_n_1_0_0_1_2_11.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl)),
      Nat.add_zero]
    unfold GatherDims.start
    rw [dif_pos (show (1 : Fin 2) ∈ gather_S1024x32_S1024x1x1_S1024x1_n_1_0_0_1_2_11.startIndexMap from List.mem_singleton.mpr rfl)]
    have hi : gather_S1024x32_S1024x1x1_S1024x1_n_1_0_0_1_2_11.siIdx (ix2 n 0) ⟨0, by decide⟩ = ix3 n 0 0 := by
      funext b
      refine Fin.ext ?_
      match b with
      | ⟨0, _⟩ => rfl
      | ⟨1, _⟩ => rfl
      | ⟨2, _⟩ => rfl
    show min (i (gather_S1024x32_S1024x1x1_S1024x1_n_1_0_0_1_2_11.siIdx (ix2 n 0) ⟨0, _⟩)).toInt.toNat 31 = e.val
    rw [hi, h, word_toInt, Int.toNat_natCast]
    omega

/-- A lookup of whole experts, one per token. -/
theorem gather_expert (W : FVec Ideal All .f32) (i : IVec S1024x1 32) (n : Fin 1024) (k : Fin 256) (f : Fin 512) (e : Fin 32)
    (h : i (ix2 n 0) = word e) :
    Host.gather gather_S32x256x512_S1024x1_S1024x256x512_12_0_n_n_0_1_1256512 W i (ix3 n k f) = W (ix3 e k f) := by
  unfold Host.gather
  refine congrArg W (funext fun a => Fin.ext ?_)
  show gather_S32x256x512_S1024x1_S1024x256x512_12_0_n_n_0_1_1256512.start (ix3 n k f) i a
    + gather_S32x256x512_S1024x1_S1024x256x512_12_0_n_n_0_1_1256512.batchCoord (ix3 n k f) a
    + gather_S32x256x512_S1024x1_S1024x256x512_12_0_n_n_0_1_1256512.offCoord (ix3 n k f) a = _
  rw [GatherDims.batchCoord_eq_zero _ _ _ List.not_mem_nil, Nat.add_zero]
  obtain rfl | rfl | rfl : a = 0 ∨ a = 1 ∨ a = 2 := by
    match a with
    | ⟨0, _⟩ => exact .inl rfl
    | ⟨1, _⟩ => exact .inr (.inl rfl)
    | ⟨2, _⟩ => exact .inr (.inr rfl)
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S32x256x512_S1024x1_S1024x256x512_12_0_n_n_0_1_1256512.startIndexMap from List.mem_singleton.mpr rfl)]
    have hi : gather_S32x256x512_S1024x1_S1024x256x512_12_0_n_n_0_1_1256512.siIdx (ix3 n k f) ⟨0, by decide⟩ = ix2 n 0 := by
      funext b
      refine Fin.ext ?_
      match b with
      | ⟨0, _⟩ => rfl
      | ⟨1, _⟩ => rfl
    show min (i (gather_S32x256x512_S1024x1_S1024x256x512_12_0_n_n_0_1_1256512.siIdx (ix3 n k f) ⟨0, _⟩)).toInt.toNat 31 = e.val
    rw [hi, h, word_toInt, Int.toNat_natCast]
    omega
  · unfold GatherDims.start
    rw [dif_neg (by decide), Nat.zero_add]
    unfold GatherDims.offCoord
    rw [dif_pos (by decide)]
    rfl
  · unfold GatherDims.start
    rw [dif_neg (by decide), Nat.zero_add]
    unfold GatherDims.offCoord
    rw [dif_pos (by decide)]
    rfl

/-! ## The lookups of choices below 32 -/

section Choices
variable {a : IVec S1024x1 32} {v : IVec S1024 32} {u : Fin 1024 → Fin 32}

theorem places_eq (n : Fin 1024) : places a (ix3 n 0 0)
    = Scalar.select (IntOp.cmpi .slt (a (ix2 n 0)) 0#32) (IntOp.addi (a (ix2 n 0)) 32#32) (a (ix2 n 0)) := by
  pointwise [places]

theorem places_apply (n : Fin 1024) (e : Fin 32) (h : a (ix2 n 0) = word e) : places a (ix3 n 0 0) = word e := by
  rw [places_eq, h, wrap_word]

theorem inside_eq (n : Fin 1024) : inside a (ix3 n 0 0)
    = IntOp.andi (IntOp.cmpi .sge (places a (ix3 n 0 0)) 0#32) (IntOp.cmpi .sle (places a (ix3 n 0 0)) 31#32) := by
  pointwise [inside]

theorem inside_apply (h : ∀ n, a (ix2 n 0) = word (u n)) (i : S1024x1x1.Idx) : inside a i = 1#1 := by
  obtain ⟨n, rfl⟩ : ∃ n, i = ix3 n 0 0 := ⟨i 0, by
    funext b
    match b with
    | ⟨0, _⟩ => rfl
    | ⟨1, _⟩ => exact Subsingleton.elim (α := Fin 1) _ _
    | ⟨2, _⟩ => exact Subsingleton.elim (α := Fin 1) _ _⟩
  rw [inside_eq, places_apply n (u n) (h n), inside_word]

theorem taken_apply (p : FVec Ideal S1024x32 .f32) (h : ∀ n, a (ix2 n 0) = word (u n)) (n : Fin 1024) :
    taken p a (ix2 n 0) = p (ix2 n (u n)) := by
  show Scalar.select (Host.reduce IntOp.andi (inside a) (constantI S_ 1 1#1) reducesTo_S1024x1x1_S1024x1_d2 h_S_ (ix2 n 0))
    (Host.gather gather_S1024x32_S1024x1x1_S1024x1_n_1_0_0_1_2_11 p (places a) (ix2 n 0)) _ = _
  rw [Host.reduce_andi_one _ _ _ _ _ rfl (inside_apply h), gather_place p _ n (u n) (places_apply n (u n) (h n))]
  rfl

theorem names_apply (n : Fin 1024) (e : Fin 32) (h : v (ix1 n) = word e) : names v (ix2 n 0) = word e := by
  have : names v (ix2 n 0) = Scalar.select (IntOp.cmpi .slt (v (ix1 n)) 0#32) (IntOp.addi (v (ix1 n)) 32#32) (v (ix1 n)) := by
    pointwise [names]
  rw [this, h, wrap_word]

theorem rows_apply (W : FVec Ideal All .f32) (n : Fin 1024) (k : Fin 256) (f : Fin 512) (e : Fin 32) (h : v (ix1 n) = word e) :
    rows W v (ix3 n k f) = W (ix3 e k f) :=
  gather_expert W _ n k f e (names_apply n e h)

theorem owns_eq (d : Fin 8) (n : Fin 1024) : owns v (ix2 d n)
    = IntOp.andi (IntOp.cmpi .sle (IntOp.muli 4#32 (BitVec.ofNat 32 d.val)) (v (ix1 n)))
      (IntOp.cmpi .slt (v (ix1 n)) (IntOp.addi (IntOp.muli 4#32 (BitVec.ofNat 32 d.val)) 4#32)) := by
  pointwise [owns, firsts]

theorem owns_apply (d : Fin 8) (n : Fin 1024) (e : Fin 32) (h : v (ix1 n) = word e) :
    owns v (ix2 d n) = if 4 * d.val ≤ e.val ∧ e.val < 4 * d.val + 4 then 1#1 else 0#1 := by
  rw [owns_eq, h, owns_word]

theorem handed_eq (y : FVec Ideal S1024x512 .f32) (d : Fin 8) (n : Fin 1024) (f : Fin 512) :
    handed v y (ix3 d n f) = Scalar.select (owns v (ix2 d n)) (y (ix2 n f)) 0 := by
  pointwise [handed]
  exact congrArg _ Ideal.ofBits_zero_f32

theorem handed_apply (y : FVec Ideal S1024x512 .f32) (d : Fin 8) (n : Fin 1024) (f : Fin 512) (e : Fin 32) (h : v (ix1 n) = word e) :
    handed v y (ix3 d n f) = if 4 * d.val ≤ e.val ∧ e.val < 4 * d.val + 4 then y (ix2 n f) else 0 := by
  rw [handed_eq, owns_apply d n e h]
  split
  · rfl
  · rfl

end Choices

theorem weighed_apply (x : FVec Ideal Tokens .f32) (g s : FVec Ideal S1024x1 .f32) (t : FVec Ideal S1024x256x512 .f32) (n : Fin 1024)
    (f : Fin 512) : weighed x g s t (ix2 n f) = Ideal.div (g (ix2 n 0)) (s (ix2 n 0)) * ∑ k : Fin 256, x (ix2 n k) * t (ix3 n k f) := by
  pointwise [weighed, dot_S1024x256_S1024x256x512_S1024x512_1_1_n_2_0_0]

/-! ## An element of the result -/

/-- Row `n` of block `d`. -/
def row (d : Fin 8) (n : Fin 1024) : Fin 8192 := ⟨1024 * d.val + n.val, by omega⟩

section Whole
variable {x : FVec Ideal Tokens .f32} {r : FVec Ideal Router .f32} {c : IVec Choice 32} {W : FVec Ideal All .f32}
variable {a b : Fin 1024 → Fin 32} (ha : ∀ n, c (ix2 n 0) = word (a n)) (hb : ∀ n, c (ix2 n 1) = word (b n))
include ha hb

theorem gates_apply (n : Fin 1024) : gates x r c (ix2 n 0) = prob x r n (a n) + prob x r n (b n) := by
  show taken (probs x r) (colA c) (ix2 n 0) + taken (probs x r) (colB c) (ix2 n 0) = _
  rw [taken_apply _ (fun n => (colA_apply c n).trans (ha n)), taken_apply _ (fun n => (colB_apply c n).trans (hb n)), probs_apply, probs_apply]

theorem whole_apply (d : Fin 8) (n : Fin 1024) (f : Fin 512) : whole x r c W (ix2 (row d n) f)
    = added x W n f (prob x r n) (a n) (b n) (a n) d + added x W n f (prob x r n) (a n) (b n) (b n) d := by
  have cut : ∀ y : FVec Ideal S8x1024x512 .f32, shapeCast S8192x512 y shapeCasts_S8x1024x512_S8192x512 (ix2 (row d n) f) = y (ix3 d n f) := by
    intro y
    refine Idealize.ShloMosaic.shapeCast_apply y _ _ _ ?_
    rw [Shape.rowMajor_val_three, Shape.rowMajor_val_two]
    show (d.val * 1024 + n.val) * 512 + f.val = (1024 * d.val + n.val) * 512 + f.val
    omega
  unfold whole
  rw [cut]
  show handed _ _ (ix3 d n f) + handed _ _ (ix3 d n f) = _
  have hA := fun n => (flatA_apply c n).trans (ha n)
  have hB := fun n => (flatB_apply c n).trans (hb n)
  rw [handed_apply _ d n f (a n) (hA n), handed_apply _ d n f (b n) (hB n), weighed_apply, weighed_apply, gates_apply ha hb,
    taken_apply _ (fun n => (colA_apply c n).trans (ha n)), taken_apply _ (fun n => (colB_apply c n).trans (hb n)), probs_apply, probs_apply,
    Finset.sum_congr rfl fun k _ => congrArg _ (rows_apply W n k f (a n) (hA n)),
    Finset.sum_congr rfl fun k _ => congrArg _ (rows_apply W n k f (b n) (hB n))]
  rfl

end Whole

end Cert.ShareIdealRun

end
-- ==== Proof.Share.lean ====
/-
# Each device ends with its share

For finite activations, a finite router and two different experts below 32 per token, device `d` ends with block `d` of the
result of `share`: for each token, what those of its two choices add that device `d` owns.
-/
module

public import proofs.«01_k».proof.Defs
public import proofs.«01_k».proof.Proof.KernelIdealValue
public import proofs.«01_k».proof.Proof.Routed
public import proofs.«01_k».proof.Proof.ShareLookup
public import Idealize.ShloMosaic.Lib.Layout

@[expose] public section

noncomputable section

namespace Cert.Share

open Cert.KernelIdeal Cert.KernelIdeal.Gen Cert.KernelIdealRun Cert.Mixture
open Idealize.ShloMosaic Idealize.ShloMosaic.TcCoe Idealize.SL.Sem

section Element
variable {x : FVec Ideal Tokens .f32} {r : FVec Ideal Router .f32} {c : IVec Choice 32} {W : FVec Ideal All .f32}

theorem word_of_small {v : BitVec 32} (h : v.toNat < 32) : v = Cert.ShareIdealRun.word ⟨v.toNat, h⟩ := by
  refine BitVec.eq_of_toNat_eq ?_
  show _ = (BitVec.ofNat 32 v.toNat).toNat
  rw [BitVec.toNat_ofNat, Nat.mod_eq_of_lt v.isLt]

/-- A device's experts are its block of all of them. -/
theorem block_expert (d : Fin 8) (W : FVec Ideal All .f32) (j : Fin 4) (k : Fin 256) (f : Fin 512) :
    (Layout.block ⟨3, ![4, 256, 512]⟩ ⟨3, ![32, 256, 512]⟩ 0 8 d W : FVec Ideal Four .f32) (ix3 j k f) = W (ix3 (owned d j) k f) := by
  refine congrArg W (funext fun a => Fin.ext ?_)
  match a with
  | ⟨0, _⟩ => show d.val * 4 + j.val = 4 * d.val + j.val; omega
  | ⟨1, _⟩ => rfl
  | ⟨2, _⟩ => rfl

/-- A device's rows are its block of the result. -/
theorem block_row (d : Fin 8) (y : FVec Ideal ⟨2, ![8192, 512]⟩ .f32) (n : Fin 1024) (f : Fin 512) :
    (Layout.block ⟨2, ![1024, 512]⟩ ⟨2, ![8192, 512]⟩ 0 8 d y : FVec Ideal ⟨2, ![1024, 512]⟩ .f32) (ix2 n f)
      = y (ix2 (Cert.ShareIdealRun.row d n) f) := by
  refine congrArg y (funext fun a => Fin.ext ?_)
  match a with
  | ⟨0, _⟩ => show d.val * 1024 + n.val = 1024 * d.val + n.val; omega
  | ⟨1, _⟩ => rfl

theorem part_share {w : FVec Ideal Four .f32} (h : Cert.Pre_routed_KernelIdeal.fn (F := Ideal) x r c w = fun _ => 1#1) (d : Fin 8)
    (hw : w = Layout.block ⟨3, ![4, 256, 512]⟩ ⟨3, ![32, 256, 512]⟩ 0 8 d W) (n : Fin 1024) (f : Fin 512) :
    part d x r c w n f = Cert.ShareIdealRun.whole x r c W (ix2 (Cert.ShareIdealRun.row d n) f) := by
  have two := Cert.Routed.choices h
  have ha : ∀ n, c (ix2 n 0) = Cert.ShareIdealRun.word ⟨(c (ix2 n 0)).toNat, (two n).1⟩ := fun n => word_of_small (two n).1
  have hb : ∀ n, c (ix2 n 1) = Cert.ShareIdealRun.word ⟨(c (ix2 n 1)).toNat, (two n).2.1⟩ := fun n => word_of_small (two n).2.1
  rw [Cert.ShareIdealRun.whole_apply ha hb d n f]
  exact part_eq (Cert.Routed.real_x h n) (Cert.Routed.real_r h) (ha n) (hb n)
    (fun e => (two n).2.2 (BitVec.eq_of_toNat_eq (Fin.mk.inj e))) (fun j k => by rw [hw]; exact block_expert d W j k f)

end Element

section Device
variable (m : (ℓ : Loc nD τ sig) → Buf (Elt Ideal) ℓ) (c : Dev nD)

theorem out_elt (n : Fin 1024) (f : Fin 512) : outArr m c (ix2 n f)
    = part c (m ((c.tc : Thread nD τ).loc main_arg0)) (m ((c.tc : Thread nD τ).loc main_arg1)) (m ((c.tc : Thread nD τ).loc main_arg2))
        (m ((c.tc : Thread nD τ).loc main_arg3)) n f := by
  rw [outArr_eq]
  unfold outAt
  rw [xIn_eq, rIn_eq, eIn_eq, wIn_eq]
  exact mix_apply c _ _ _ _ n f

end Device

theorem share : Cert.algebraic_KernelIdeal_ShareIdeal_pre_routed_KernelIdeal := by
  intro m g m' g' hpre hargs
  refine ⟨Cert.ShareIdeal.Value.res_main_v74 m' 0, ?_, ?_⟩
  · refine (θ_run defs _ _).mono (fun r h c => ⟨?_, ?_⟩) (Cert.KernelIdealRun.run (F := Ideal) m g)
    · refine (h.1 c).2.trans ?_
      rw [Cert.ShareIdealRun.res_eq]
      funext i
      obtain ⟨n, f, rfl⟩ : ∃ (n : Fin 1024) (f : Fin 512), i = ix2 n f := ⟨i 0, i 1, by
        funext a
        match a with
        | ⟨0, _⟩ => rfl
        | ⟨1, _⟩ => rfl⟩
      obtain ⟨e0, e1, e2, e3⟩ := hargs c
      refine (out_elt m c n f).trans ((part_share (hpre c) c e3 n f).trans ?_)
      rw [e0, e1, e2]
      exact (block_row c _ n f).symm
    · exact (h.1 c).1
  · exact (θ_run Cert.ShareIdeal.defs _ _).mono (fun _ h => h 0) (Cert.ShareIdeal.Value.run m' g')

end Cert.Share

end
-- ==== Proof.Total.lean ====
/-
# The eight shares add up to the reference

A choice below 32 is owned by exactly one of the eight blocks, so the sum of the blocks of `share`'s result is the sum of the
two terms of each token, which is the reference. A choice above 31 is owned by none, and its term is 0: its probability is read
outside, as minus infinity, and minus infinity over minus infinity is 0.
-/
module

public import proofs.«01_k».proof.Defs
public import proofs.«01_k».proof.Proof.Share
public import proofs.«01_k».proof.Proof.Gen.TotalIdeal
public import proofs.«01_k».proof.Proof.Gen.TotalIdeal.Run
public import proofs.«01_k».proof.Proof.Gen.FullIdeal
public import proofs.«01_k».proof.Proof.Gen.FullIdeal.Run
public import proofs.«01_k».proof.Proof.Gen.Pre_counted

@[expose] public section

noncomputable section

namespace Cert.Total

open Cert.ShareIdeal Cert.ShareIdeal.Gen Cert.ShareIdealRun Cert.Mixture
open Idealize.ShloMosaic Idealize.ShloMosaic.TcCoe Idealize.SL.Sem

section Pieces
variable (x : FVec Ideal S1024x256 .f32) (r : FVec Ideal S256x32 .f32) (c : IVec S1024x2 32) (W : FVec Ideal S32x256x512 .f32)

/-- Every token's first term. -/
def termA : FVec Ideal S1024x512 .f32 := weighed x (taken (probs x r) (colA c)) (gates x r c) (rows W (flat (colA c)))

/-- Every token's second term. -/
def termB : FVec Ideal S1024x512 .f32 := weighed x (taken (probs x r) (colB c)) (gates x r c) (rows W (flat (colB c)))

/-- The sum of the eight blocks. -/
def summed : FVec Ideal S1024x512 .f32 :=
  Host.reduceAdd (shapeCast S8x1024x512 (whole x r c W) (show S8192x512.ShapeCasts S8x1024x512 from Cert.TotalIdeal.Gen.shapeCasts_S8192x512_S8x1024x512))
    (constant S_ .f32 0x00000000#32) (show S8x1024x512.ReducesTo [0] S1024x512 from Cert.TotalIdeal.Gen.reducesTo_S8x1024x512_S1024x512_d0) h_S_
end Pieces

/-- What `total` ends with. -/
theorem total_eq (m : (ℓ : Loc Cert.TotalIdeal.nD Cert.TotalIdeal.τ Cert.TotalIdeal.sig) → Buf (Elt Ideal) ℓ) (c : Dev Cert.TotalIdeal.nD) :
    Cert.TotalIdeal.Value.res_main_v76 m c
      = summed (m ((c.tc : Thread Cert.TotalIdeal.nD Cert.TotalIdeal.τ).loc Cert.TotalIdeal.main_arg0))
          (m ((c.tc : Thread Cert.TotalIdeal.nD Cert.TotalIdeal.τ).loc Cert.TotalIdeal.main_arg1))
          (m ((c.tc : Thread Cert.TotalIdeal.nD Cert.TotalIdeal.τ).loc Cert.TotalIdeal.main_arg2))
          (m ((c.tc : Thread Cert.TotalIdeal.nD Cert.TotalIdeal.τ).loc Cert.TotalIdeal.main_arg3)) := by
  unfold Cert.TotalIdeal.Value.res_main_v76
  rfl

/-- What the reference ends with. -/
theorem full_eq (m : (ℓ : Loc Cert.FullIdeal.nD Cert.FullIdeal.τ Cert.FullIdeal.sig) → Buf (Elt Ideal) ℓ) (c : Dev Cert.FullIdeal.nD) :
    Cert.FullIdeal.Value.res_main_v41 m c
      = addf (termA (m ((c.tc : Thread Cert.FullIdeal.nD Cert.FullIdeal.τ).loc Cert.FullIdeal.main_arg0))
            (m ((c.tc : Thread Cert.FullIdeal.nD Cert.FullIdeal.τ).loc Cert.FullIdeal.main_arg1))
            (m ((c.tc : Thread Cert.FullIdeal.nD Cert.FullIdeal.τ).loc Cert.FullIdeal.main_arg2))
            (m ((c.tc : Thread Cert.FullIdeal.nD Cert.FullIdeal.τ).loc Cert.FullIdeal.main_arg3)))
          (termB (m ((c.tc : Thread Cert.FullIdeal.nD Cert.FullIdeal.τ).loc Cert.FullIdeal.main_arg0))
            (m ((c.tc : Thread Cert.FullIdeal.nD Cert.FullIdeal.τ).loc Cert.FullIdeal.main_arg1))
            (m ((c.tc : Thread Cert.FullIdeal.nD Cert.FullIdeal.τ).loc Cert.FullIdeal.main_arg2))
            (m ((c.tc : Thread Cert.FullIdeal.nD Cert.FullIdeal.τ).loc Cert.FullIdeal.main_arg3))) := by
  unfold Cert.FullIdeal.Value.res_main_v41
  rfl

/-- Of the eight blocks exactly one owns an expert. -/
theorem one_owner (e : Fin 32) (y : EReal) : ∑ d : Fin 8, (if 4 * d.val ≤ e.val ∧ e.val < 4 * d.val + 4 then y else 0) = y := by
  rw [Finset.sum_eq_single (⟨e.val / 4, by omega⟩ : Fin 8)]
  · exact if_pos (by show 4 * (e.val / 4) ≤ e.val ∧ e.val < 4 * (e.val / 4) + 4; omega)
  · intro d _ hd
    refine if_neg fun h => hd (Fin.ext ?_)
    show d.val = e.val / 4
    omega
  · exact fun h => absurd (Finset.mem_univ _) h

/-! ## Choices that are not negative -/

/-- A word that is not negative, read signed, is itself. -/
theorem nonneg_toInt {t : BitVec 32} (h : IntOp.cmpi .sge t 0#32 = 1#1) : t.toInt = t.toNat := by
  have h' : BitVec.sle 0#32 t = true := (StableHlo.Predicate.ofBool_eq_one_iff _).mp h
  simp only [BitVec.sle, decide_eq_true_eq] at h'
  have e := BitVec.toInt_eq_toNat_cond t
  have l := t.isLt
  rw [show (0#32 : BitVec 32).toInt = 0 from by decide] at h'
  split at e <;> omega

theorem not_one {b : BitVec 1} (h : b ≠ 1#1) : b = 0#1 := by
  revert b; decide

section Outside
variable {t : BitVec 32} (h0 : IntOp.cmpi .sge t 0#32 = 1#1) (h1 : 32 ≤ t.toNat)
include h0 h1

/-- No block owns a choice above 31. -/
theorem owns_outside {v : IVec S1024 32} (d : Fin 8) (n : Fin 1024) (h : v (ix1 n) = t) : Cert.ShareIdealRun.owns v (ix2 d n) = 0#1 := by
  rw [owns_eq, h]
  refine not_one fun hh => ?_
  have hlt : BitVec.slt t (IntOp.addi (IntOp.muli 4#32 (BitVec.ofNat 32 d.val)) 4#32) = true :=
    (StableHlo.Predicate.ofBool_eq_one_iff _).mp (Cert.Routed.andi_one hh).2
  have last : ∀ d : Fin 8, (IntOp.addi (IntOp.muli 4#32 (BitVec.ofNat 32 d.val)) 4#32 : BitVec 32).toInt ≤ 32 := by decide
  simp only [BitVec.slt, decide_eq_true_eq] at hlt
  rw [nonneg_toInt h0] at hlt
  have := last d
  omega

/-- Its probability is read as minus infinity. -/
theorem taken_outside (p : FVec Ideal S1024x32 .f32) {a : IVec S1024x1 32} (n : Fin 1024) (h : a (ix2 n 0) = t) : taken p a (ix2 n 0) = ⊥ := by
  have kept : IntOp.cmpi .slt t 0#32 = 0#1 := not_one fun hh => by
    have hlt : BitVec.slt t 0#32 = true := (StableHlo.Predicate.ofBool_eq_one_iff _).mp hh
    simp only [BitVec.slt, decide_eq_true_eq] at hlt
    rw [nonneg_toInt h0, show (0#32 : BitVec 32).toInt = 0 from by decide] at hlt
    omega
  have hp : places a (ix3 n 0 0) = t := by
    rw [places_eq, h, kept]
    rfl
  show Scalar.select (Host.reduce IntOp.andi (inside a) (constantI S_ 1 1#1) reducesTo_S1024x1x1_S1024x1_d2 h_S_ (ix2 n 0))
    _ (Ideal.ofBits .f32 0x7FC00000#32) = _
  rw [not_one (b := Host.reduce IntOp.andi (inside a) (constantI S_ 1 1#1) reducesTo_S1024x1x1_S1024x1_d2 h_S_ (ix2 n 0)) fun hh => ?_]
  · show Ideal.ofBits .f32 0x7FC00000#32 = ⊥
    simp [Ideal.ofBits, Ideal.ieee]
  · have one := Host.reduce_andi_eq_one _ _ _ _ _ hh (ix3 n 0 0) (by
      funext b
      match b with
      | ⟨0, _⟩ => rfl
      | ⟨1, _⟩ => rfl)
    rw [inside_eq, hp] at one
    have hle : BitVec.sle t 31#32 = true := (StableHlo.Predicate.ofBool_eq_one_iff _).mp (Cert.Routed.andi_one one).2
    simp only [BitVec.sle, decide_eq_true_eq] at hle
    rw [nonneg_toInt h0, show (31#32 : BitVec 32).toInt = 31 from by decide] at hle
    omega

end Outside

/-- A term whose gate is minus infinity over minus infinity is 0. -/
theorem weighed_outside (x : FVec Ideal Tokens .f32) {g s : FVec Ideal S1024x1 .f32} (t : FVec Ideal S1024x256x512 .f32) (n : Fin 1024)
    (f : Fin 512) (hg : g (ix2 n 0) = ⊥) (hs : s (ix2 n 0) = ⊥) : weighed x g s t (ix2 n f) = 0 := by
  rw [weighed_apply, hg, hs]
  unfold Ideal.div
  rw [if_neg EReal.bot_ne_zero, EReal.inv_bot, mul_zero, zero_mul]

/-- The eight blocks' parts of one term add up to it, if it is 0 whenever its choice is above 31. -/
theorem handed_sum {v : IVec S1024 32} (y : FVec Ideal S1024x512 .f32) (n : Fin 1024) (f : Fin 512)
    (h0 : IntOp.cmpi .sge (v (ix1 n)) 0#32 = 1#1) (hy : 32 ≤ (v (ix1 n)).toNat → y (ix2 n f) = 0) :
    ∑ d : Fin 8, handed v y (ix3 d n f) = y (ix2 n f) := by
  by_cases h : (v (ix1 n)).toNat < 32
  · rw [Finset.sum_congr rfl fun d _ => handed_apply y d n f _ (Cert.Share.word_of_small h), one_owner]
  · rw [hy (Nat.le_of_not_lt h)]
    refine Finset.sum_eq_zero fun d _ => ?_
    rw [handed_eq, owns_outside h0 (Nat.le_of_not_lt h) d n rfl]
    rfl

section Value
variable {x : FVec Ideal Tokens .f32} {r : FVec Ideal Router .f32} {c : IVec Choice 32} {W : FVec Ideal All .f32}

/-- Of choices that are not negative, the sum of the eight blocks is the sum of the two terms. -/
theorem summed_eq (h : ∀ n k, IntOp.cmpi .sge (c (ix2 n k)) 0#32 = 1#1) : summed x r c W = addf (termA x r c W) (termB x r c W) := by
  funext i
  obtain ⟨n, f, rfl⟩ : ∃ (n : Fin 1024) (f : Fin 512), i = ix2 n f := ⟨i 0, i 1, by
    funext a
    match a with
    | ⟨0, _⟩ => rfl
    | ⟨1, _⟩ => rfl⟩
  have uncut : ∀ (y : FVec Ideal S8x1024x512 .f32) h h', shapeCast S8x1024x512 (shapeCast S8192x512 y h) h' = y := fun y h h' => by
    rw [shapeCast_comp, shapeCast_id]
  have sum : ∀ (y : FVec Ideal S8x1024x512 .f32) h h', Host.reduceAdd y (constant S_ .f32 0x00000000#32) (t := S1024x512) (axes := [0]) h h' (ix2 n f)
      = ∑ d : Fin 8, y (ix3 d n f) := fun y h h' => by
    pointwise
  have both : gates x r c (ix2 n 0) = taken (probs x r) (colA c) (ix2 n 0) + taken (probs x r) (colB c) (ix2 n 0) := rfl
  have zeroA : 32 ≤ (flat (colA c) (ix1 n)).toNat → termA x r c W (ix2 n f) = 0 := fun hc => by
    rw [flatA_apply] at hc
    have e := taken_outside (h n 0) hc (probs x r) n (colA_apply c n)
    exact weighed_outside x _ n f e (by rw [both, e, EReal.bot_add])
  have zeroB : 32 ≤ (flat (colB c) (ix1 n)).toNat → termB x r c W (ix2 n f) = 0 := fun hc => by
    rw [flatB_apply] at hc
    have e := taken_outside (h n 1) hc (probs x r) n (colB_apply c n)
    exact weighed_outside x _ n f e (by rw [both, e, EReal.add_bot])
  unfold summed whole
  rw [uncut, sum]
  show ∑ d : Fin 8, (handed _ (termA x r c W) (ix3 d n f) + handed _ (termB x r c W) (ix3 d n f)) = termA x r c W (ix2 n f) + termB x r c W (ix2 n f)
  rw [Finset.sum_add_distrib, handed_sum _ n f (by rw [flatA_apply]; exact h n 0) zeroA,
    handed_sum _ n f (by rw [flatB_apply]; exact h n 1) zeroB]

/-- What `counted` says of a choice. -/
theorem nonneg_of_counted (h : Cert.Pre_counted.fn (F := Ideal) x r c W = fun _ => 1#1) (n : Fin 1024) (k : Fin 2) :
    IntOp.cmpi .sge (c (ix2 n k)) 0#32 = 1#1 := by
  have e : Cert.Pre_counted.fn (F := Ideal) x r c W (ix2 n k) = IntOp.cmpi .sge (c (ix2 n k)) 0#32 := by
    pointwise [Cert.Pre_counted.fn]
  exact e.symm.trans (congrFun h _)

end Value

/-- `total` ends with the reference's result. -/
theorem total : Cert.algebraic_TotalIdeal_FullIdeal_pre_counted := by
  intro m g m' g' hpre hargs
  refine ⟨fun c => Cert.TotalIdeal.Value.res_main_v76 m c, Cert.TotalIdeal.Value.run m g, ?_⟩
  refine (θ_run Cert.FullIdeal.defs _ _).mono (fun r h c => ⟨(h c).1.trans ?_, (h c).2⟩) (Cert.FullIdeal.Value.run m' g')
  obtain ⟨e0, e1, e2, e3⟩ := hargs c
  refine (full_eq m' c).trans (Eq.trans ?_ (total_eq m c).symm)
  rw [e0, e1, e2, e3]
  exact (summed_eq (nonneg_of_counted (hpre c))).symm

end Cert.Total

end
-- ==== Proof.lean ====
/-
# The certificate

Four frames of the kernel's two programs: each of its idealized ones from that program's own run, and the original's from
the same run at machine words, since the two have the same text. The frames of the references. Over the extended reals,
what each device ends with: its block of `share`'s result; and that those blocks add up to the reference's result. The
disproof: the devices do not end with the reference's result.
-/
module

public import proofs.«01_k».proof.Defs
public import proofs.«01_k».proof.Proof.Gen.Kernel
public import proofs.«01_k».proof.Proof.Gen.KernelCx
public import proofs.«01_k».proof.Proof.Gen.Pre_routed_ShareIdeal
public import proofs.«01_k».proof.Proof.KernelIdealLaunch
public import proofs.«01_k».proof.Proof.KernelCxIdealLaunch
public import proofs.«01_k».proof.Proof.Disproof
public import proofs.«01_k».proof.Proof.Share
public import proofs.«01_k».proof.Proof.Total
public import proofs.«01_k».proof.Proof.Gen.TotalIdeal
public import proofs.«01_k».proof.Proof.Gen.TotalIdeal.Run
public import proofs.«01_k».proof.Proof.Gen.FullIdeal
public import proofs.«01_k».proof.Proof.Gen.FullIdeal.Run
public import proofs.«01_k».proof.Proof.Gen.Pre_counted
public import Idealize.ShloMosaic.Adequacy
public import Idealize.ShloMosaic.Init

@[expose] public section

noncomputable section

namespace Cert.Proof

open Idealize.ShloMosaic Idealize.SL.Sem

/-- The two readings of this program have one text, so at the device's own floats their bodies are
    the same: the pieces of the body agree by computing, and with them the table. -/
theorem table_kernel₀ : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) =>
    dsimp only
    unfold Cert.Kernel.cc0_body Cert.KernelIdeal.cc0_body
    with_unfolding_all rfl

theorem table_kernel : Cert.Kernel.defs (F := Bits) = Cert.KernelIdeal.defs (F := Bits) := by
  unfold Cert.Kernel.defs Cert.KernelIdeal.defs
  exact congrArg (Pipeline.defs Cert.KernelIdeal.pcfgs) table_kernel₀

theorem frame_kernel : Cert.quiescent_Kernel := fun m ρ _ => by
  rw [table_kernel]
  exact Cert.KernelIdealRun.frame (F := Bits) m ρ

theorem frame_kernel_ideal : Cert.quiescent_KernelIdeal := fun m ρ _ => Cert.KernelIdealRun.frame (F := Ideal) m ρ

/-- The two readings of this program have one text, so at the device's own floats their bodies are
    the same: the pieces of the body agree by computing, and with them the table. -/
theorem table_cx₀ : Cert.KernelCx.defs₀ (F := Bits) = Cert.KernelCxIdeal.defs₀ (F := Bits) := by
  unfold Cert.KernelCx.defs₀ Cert.KernelCxIdeal.defs₀
  refine congrArg Defs.onTc ?_
  funext l a
  match l, a with
  | 0, (t, s) =>
    dsimp only
    unfold Cert.KernelCx.cc0_body Cert.KernelCxIdeal.cc0_body
    with_unfolding_all rfl

theorem table_cx : Cert.KernelCx.defs (F := Bits) = Cert.KernelCxIdeal.defs (F := Bits) := by
  unfold Cert.KernelCx.defs Cert.KernelCxIdeal.defs
  exact congrArg (Pipeline.defs Cert.KernelCxIdeal.pcfgs) table_cx₀

theorem frame_cx : Cert.quiescent_KernelCx := fun m ρ _ => by
  rw [table_cx]
  exact Cert.KernelCxIdealRun.frame (F := Bits) m ρ

theorem frame_cx_ideal : Cert.quiescent_KernelCxIdeal := fun m ρ _ => Cert.KernelCxIdealRun.frame (F := Ideal) m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_share : Cert.quiescent_ShareIdeal := fun m ρ _ =>
  (θ_run Cert.ShareIdeal.defs _ _).mono
    (fun r h => ⟨fun c => (h c).2, Idealize.ShloMosaic.sem_eq_zero_of_no_sems (by decide) r.2⟩)
    (Cert.ShareIdeal.Value.run (F := Ideal) m ρ)

theorem frame_total : Cert.quiescent_TotalIdeal := fun m ρ _ =>
  (θ_run Cert.TotalIdeal.defs _ _).mono
    (fun r h => ⟨fun c => (h c).2, Idealize.ShloMosaic.sem_eq_zero_of_no_sems (by decide) r.2⟩)
    (Cert.TotalIdeal.Value.run (F := Ideal) m ρ)

theorem frame_full : Cert.quiescent_FullIdeal := fun m ρ _ =>
  (θ_run Cert.FullIdeal.defs _ _).mono
    (fun r h => ⟨fun c => (h c).2, Idealize.ShloMosaic.sem_eq_zero_of_no_sems (by decide) r.2⟩)
    (Cert.FullIdeal.Value.run (F := Ideal) m ρ)

theorem claim : Cert.Claim :=
  ⟨Cert.Kernel.Gen.facts, Cert.KernelIdeal.Gen.facts, Cert.ShareIdeal.Gen.facts, Cert.TotalIdeal.Gen.facts, Cert.FullIdeal.Gen.facts,
    Cert.KernelCx.Gen.facts, Cert.KernelCxIdeal.Gen.facts, Cert.ReferenceIdeal.Gen.facts, Cert.Pre_routed_KernelIdeal.Gen.facts,
    Cert.Pre_routed_ShareIdeal.Gen.facts, Cert.Pre_counted.Gen.facts,
    frame_kernel, frame_kernel_ideal, fun m ρ _ => frame_kernel_ideal m ρ trivial, frame_share, fun m ρ _ => frame_share m ρ trivial,
    frame_total, fun m ρ _ => frame_total m ρ trivial, frame_full, fun m ρ _ => frame_full m ρ trivial,
    frame_cx, frame_cx_ideal, frame_reference, trivial, Cert.Share.share, Cert.Total.total, trivial, Cert.Disproof.disproof⟩

end Cert.Proof

end
